-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S2048x128 : Shape := ⟨2, ![2048, 128]⟩
abbrev S64x4096 : Shape := ⟨2, ![64, 4096]⟩
abbrev S_ : Shape := ⟨0, ![]⟩
abbrev S4 : Shape := ⟨1, ![4]⟩
abbrev S32 : Shape := ⟨1, ![32]⟩
abbrev S4096x512 : Shape := ⟨2, ![4096, 512]⟩
abbrev S128x512 : Shape := ⟨2, ![128, 512]⟩
abbrev S512x128 : Shape := ⟨2, ![512, 128]⟩
abbrev S64x128 : Shape := ⟨2, ![64, 128]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S4096x64, .f32⟩
  | .local _ .vmem, ⟨1, _⟩ => ⟨S128x4096, .f32⟩
  | .local _ .vmem, ⟨2, _⟩ => ⟨S4096x2048, .f32⟩
  | .local _ .vmem, ⟨3, _⟩ => ⟨S2048x128, .bf16⟩
  | .local _ .vmem, ⟨4, _⟩ => ⟨S64x4096, .bf16⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let c0_i32_3 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v4 : BitVec 32 := Scalar.addi v3 c0_i32
  let c4_i32_0 : BitVec 32 := 4#32
  let v5 : BitVec 32 := Scalar.remsi v4 c4_i32_0
  let c512_i32_1 : BitVec 32 := 512#32
  let v7 : BitVec 32 := Scalar.muli v5 c512_i32_1
  ![0, v7.toNat]
def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_24 : BitVec 32 := 1#32
  let v37 : BitVec 32 := Scalar.addi v2 c1_i32_24
  let c32_i32_25 : BitVec 32 := 32#32
  let v38 : BitVec 32 := Scalar.remsi v37 c32_i32_25
  let c1_i32_27 : BitVec 32 := 1#32
  let v39 : BitVec 32 := Scalar.muli v38 c1_i32_27
  let v40 : BitVec 32 := Scalar.addi c0_i32_28 v39
  v40.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_29 : BitVec 32 := 2#32
  let v41 : BitVec 32 := Scalar.addi v2 c2_i32_29
  let c32_i32_30 : BitVec 32 := 32#32
  let v42 : BitVec 32 := Scalar.remsi v41 c32_i32_30
  let c1_i32_32 : BitVec 32 := 1#32
  let v43 : BitVec 32 := Scalar.muli v42 c1_i32_32
  let v44 : BitVec 32 := Scalar.addi c0_i32_33 v43
  v44.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_34 : BitVec 32 := 3#32
  let v45 : BitVec 32 := Scalar.addi v2 c3_i32_34
  let c32_i32_35 : BitVec 32 := 32#32
  let v46 : BitVec 32 := Scalar.remsi v45 c32_i32_35
  let c1_i32_37 : BitVec 32 := 1#32
  let v47 : BitVec 32 := Scalar.muli v46 c1_i32_37
  let v48 : BitVec 32 := Scalar.addi c0_i32_38 v47
  v48.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_39 : BitVec 32 := 4#32
  let v49 : BitVec 32 := Scalar.addi v2 c4_i32_39
  let c32_i32_40 : BitVec 32 := 32#32
  let v50 : BitVec 32 := Scalar.remsi v49 c32_i32_40
  let c1_i32_42 : BitVec 32 := 1#32
  let v51 : BitVec 32 := Scalar.muli v50 c1_i32_42
  let v52 : BitVec 32 := Scalar.addi c0_i32_43 v51
  v52.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v53 : BitVec 32 := Scalar.addi v2 c5_i32
  let c32_i32_44 : BitVec 32 := 32#32
  let v54 : BitVec 32 := Scalar.remsi v53 c32_i32_44
  let c1_i32_46 : BitVec 32 := 1#32
  let v55 : BitVec 32 := Scalar.muli v54 c1_i32_46
  let v56 : BitVec 32 := Scalar.addi c0_i32_47 v55
  v56.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v57 : BitVec 32 := Scalar.addi v2 c6_i32
  let c32_i32_48 : BitVec 32 := 32#32
  let v58 : BitVec 32 := Scalar.remsi v57 c32_i32_48
  let c1_i32_50 : BitVec 32 := 1#32
  let v59 : BitVec 32 := Scalar.muli v58 c1_i32_50
  let v60 : BitVec 32 := Scalar.addi c0_i32_51 v59
  v60.toNat
def k0_dev7 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v61 : BitVec 32 := Scalar.addi v2 c7_i32
  let c32_i32_52 : BitVec 32 := 32#32
  let v62 : BitVec 32 := Scalar.remsi v61 c32_i32_52
  let c1_i32_54 : BitVec 32 := 1#32
  let v63 : BitVec 32 := Scalar.muli v62 c1_i32_54
  let v64 : BitVec 32 := Scalar.addi c0_i32_55 v63
  v64.toNat
def k0_dev8 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v65 : BitVec 32 := Scalar.addi v2 c8_i32
  let c32_i32_56 : BitVec 32 := 32#32
  let v66 : BitVec 32 := Scalar.remsi v65 c32_i32_56
  let c1_i32_58 : BitVec 32 := 1#32
  let v67 : BitVec 32 := Scalar.muli v66 c1_i32_58
  let v68 : BitVec 32 := Scalar.addi c0_i32_59 v67
  v68.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v69 : BitVec 32 := Scalar.addi v2 c9_i32
  let c32_i32_60 : BitVec 32 := 32#32
  let v70 : BitVec 32 := Scalar.remsi v69 c32_i32_60
  let c1_i32_62 : BitVec 32 := 1#32
  let v71 : BitVec 32 := Scalar.muli v70 c1_i32_62
  let v72 : BitVec 32 := Scalar.addi c0_i32_63 v71
  v72.toNat
def k0_dev10 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v73 : BitVec 32 := Scalar.addi v2 c10_i32
  let c32_i32_64 : BitVec 32 := 32#32
  let v74 : BitVec 32 := Scalar.remsi v73 c32_i32_64
  let c1_i32_66 : BitVec 32 := 1#32
  let v75 : BitVec 32 := Scalar.muli v74 c1_i32_66
  let v76 : BitVec 32 := Scalar.addi c0_i32_67 v75
  v76.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v77 : BitVec 32 := Scalar.addi v2 c11_i32
  let c32_i32_68 : BitVec 32 := 32#32
  let v78 : BitVec 32 := Scalar.remsi v77 c32_i32_68
  let c1_i32_70 : BitVec 32 := 1#32
  let v79 : BitVec 32 := Scalar.muli v78 c1_i32_70
  let v80 : BitVec 32 := Scalar.addi c0_i32_71 v79
  v80.toNat
def k0_dev12 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v81 : BitVec 32 := Scalar.addi v2 c12_i32
  let c32_i32_72 : BitVec 32 := 32#32
  let v82 : BitVec 32 := Scalar.remsi v81 c32_i32_72
  let c1_i32_74 : BitVec 32 := 1#32
  let v83 : BitVec 32 := Scalar.muli v82 c1_i32_74
  let v84 : BitVec 32 := Scalar.addi c0_i32_75 v83
  v84.toNat
def k0_dev13 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v85 : BitVec 32 := Scalar.addi v2 c13_i32
  let c32_i32_76 : BitVec 32 := 32#32
  let v86 : BitVec 32 := Scalar.remsi v85 c32_i32_76
  let c1_i32_78 : BitVec 32 := 1#32
  let v87 : BitVec 32 := Scalar.muli v86 c1_i32_78
  let v88 : BitVec 32 := Scalar.addi c0_i32_79 v87
  v88.toNat
def k0_dev14 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v89 : BitVec 32 := Scalar.addi v2 c14_i32
  let c32_i32_80 : BitVec 32 := 32#32
  let v90 : BitVec 32 := Scalar.remsi v89 c32_i32_80
  let c1_i32_82 : BitVec 32 := 1#32
  let v91 : BitVec 32 := Scalar.muli v90 c1_i32_82
  let v92 : BitVec 32 := Scalar.addi c0_i32_83 v91
  v92.toNat
def k0_dev15 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v93 : BitVec 32 := Scalar.addi v2 c15_i32
  let c32_i32_84 : BitVec 32 := 32#32
  let v94 : BitVec 32 := Scalar.remsi v93 c32_i32_84
  let c1_i32_86 : BitVec 32 := 1#32
  let v95 : BitVec 32 := Scalar.muli v94 c1_i32_86
  let v96 : BitVec 32 := Scalar.addi c0_i32_87 v95
  v96.toNat
def k0_dev16 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v97 : BitVec 32 := Scalar.addi v2 c16_i32
  let c32_i32_88 : BitVec 32 := 32#32
  let v98 : BitVec 32 := Scalar.remsi v97 c32_i32_88
  let c1_i32_90 : BitVec 32 := 1#32
  let v99 : BitVec 32 := Scalar.muli v98 c1_i32_90
  let v100 : BitVec 32 := Scalar.addi c0_i32_91 v99
  v100.toNat
def k0_dev17 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v101 : BitVec 32 := Scalar.addi v2 c17_i32
  let c32_i32_92 : BitVec 32 := 32#32
  let v102 : BitVec 32 := Scalar.remsi v101 c32_i32_92
  let c1_i32_94 : BitVec 32 := 1#32
  let v103 : BitVec 32 := Scalar.muli v102 c1_i32_94
  let v104 : BitVec 32 := Scalar.addi c0_i32_95 v103
  v104.toNat
def k0_dev18 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v105 : BitVec 32 := Scalar.addi v2 c18_i32
  let c32_i32_96 : BitVec 32 := 32#32
  let v106 : BitVec 32 := Scalar.remsi v105 c32_i32_96
  let c1_i32_98 : BitVec 32 := 1#32
  let v107 : BitVec 32 := Scalar.muli v106 c1_i32_98
  let v108 : BitVec 32 := Scalar.addi c0_i32_99 v107
  v108.toNat
def k0_dev19 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v109 : BitVec 32 := Scalar.addi v2 c19_i32
  let c32_i32_100 : BitVec 32 := 32#32
  let v110 : BitVec 32 := Scalar.remsi v109 c32_i32_100
  let c1_i32_102 : BitVec 32 := 1#32
  let v111 : BitVec 32 := Scalar.muli v110 c1_i32_102
  let v112 : BitVec 32 := Scalar.addi c0_i32_103 v111
  v112.toNat
def k0_dev20 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v113 : BitVec 32 := Scalar.addi v2 c20_i32
  let c32_i32_104 : BitVec 32 := 32#32
  let v114 : BitVec 32 := Scalar.remsi v113 c32_i32_104
  let c1_i32_106 : BitVec 32 := 1#32
  let v115 : BitVec 32 := Scalar.muli v114 c1_i32_106
  let v116 : BitVec 32 := Scalar.addi c0_i32_107 v115
  v116.toNat
def k0_dev21 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v117 : BitVec 32 := Scalar.addi v2 c21_i32
  let c32_i32_108 : BitVec 32 := 32#32
  let v118 : BitVec 32 := Scalar.remsi v117 c32_i32_108
  let c1_i32_110 : BitVec 32 := 1#32
  let v119 : BitVec 32 := Scalar.muli v118 c1_i32_110
  let v120 : BitVec 32 := Scalar.addi c0_i32_111 v119
  v120.toNat
def k0_dev22 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v121 : BitVec 32 := Scalar.addi v2 c22_i32
  let c32_i32_112 : BitVec 32 := 32#32
  let v122 : BitVec 32 := Scalar.remsi v121 c32_i32_112
  let c1_i32_114 : BitVec 32 := 1#32
  let v123 : BitVec 32 := Scalar.muli v122 c1_i32_114
  let v124 : BitVec 32 := Scalar.addi c0_i32_115 v123
  v124.toNat
def k0_dev23 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v125 : BitVec 32 := Scalar.addi v2 c23_i32
  let c32_i32_116 : BitVec 32 := 32#32
  let v126 : BitVec 32 := Scalar.remsi v125 c32_i32_116
  let c1_i32_118 : BitVec 32 := 1#32
  let v127 : BitVec 32 := Scalar.muli v126 c1_i32_118
  let v128 : BitVec 32 := Scalar.addi c0_i32_119 v127
  v128.toNat
def k0_dev24 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v129 : BitVec 32 := Scalar.addi v2 c24_i32
  let c32_i32_120 : BitVec 32 := 32#32
  let v130 : BitVec 32 := Scalar.remsi v129 c32_i32_120
  let c1_i32_122 : BitVec 32 := 1#32
  let v131 : BitVec 32 := Scalar.muli v130 c1_i32_122
  let v132 : BitVec 32 := Scalar.addi c0_i32_123 v131
  v132.toNat
def k0_dev25 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v133 : BitVec 32 := Scalar.addi v2 c25_i32
  let c32_i32_124 : BitVec 32 := 32#32
  let v134 : BitVec 32 := Scalar.remsi v133 c32_i32_124
  let c1_i32_126 : BitVec 32 := 1#32
  let v135 : BitVec 32 := Scalar.muli v134 c1_i32_126
  let v136 : BitVec 32 := Scalar.addi c0_i32_127 v135
  v136.toNat
def k0_dev26 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v137 : BitVec 32 := Scalar.addi v2 c26_i32
  let c32_i32_128 : BitVec 32 := 32#32
  let v138 : BitVec 32 := Scalar.remsi v137 c32_i32_128
  let c1_i32_130 : BitVec 32 := 1#32
  let v139 : BitVec 32 := Scalar.muli v138 c1_i32_130
  let v140 : BitVec 32 := Scalar.addi c0_i32_131 v139
  v140.toNat
def k0_dev27 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v141 : BitVec 32 := Scalar.addi v2 c27_i32
  let c32_i32_132 : BitVec 32 := 32#32
  let v142 : BitVec 32 := Scalar.remsi v141 c32_i32_132
  let c1_i32_134 : BitVec 32 := 1#32
  let v143 : BitVec 32 := Scalar.muli v142 c1_i32_134
  let v144 : BitVec 32 := Scalar.addi c0_i32_135 v143
  v144.toNat
def k0_dev28 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v145 : BitVec 32 := Scalar.addi v2 c28_i32
  let c32_i32_136 : BitVec 32 := 32#32
  let v146 : BitVec 32 := Scalar.remsi v145 c32_i32_136
  let c1_i32_138 : BitVec 32 := 1#32
  let v147 : BitVec 32 := Scalar.muli v146 c1_i32_138
  let v148 : BitVec 32 := Scalar.addi c0_i32_139 v147
  v148.toNat
def k0_dev29 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v149 : BitVec 32 := Scalar.addi v2 c29_i32
  let c32_i32_140 : BitVec 32 := 32#32
  let v150 : BitVec 32 := Scalar.remsi v149 c32_i32_140
  let c1_i32_142 : BitVec 32 := 1#32
  let v151 : BitVec 32 := Scalar.muli v150 c1_i32_142
  let v152 : BitVec 32 := Scalar.addi c0_i32_143 v151
  v152.toNat
def k0_dev30 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v153 : BitVec 32 := Scalar.addi v2 c30_i32
  let c32_i32_144 : BitVec 32 := 32#32
  let v154 : BitVec 32 := Scalar.remsi v153 c32_i32_144
  let c1_i32_146 : BitVec 32 := 1#32
  let v155 : BitVec 32 := Scalar.muli v154 c1_i32_146
  let v156 : BitVec 32 := Scalar.addi c0_i32_147 v155
  v156.toNat
def k0_dev31 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v157 : BitVec 32 := Scalar.addi v2 c31_i32
  let c32_i32_148 : BitVec 32 := 32#32
  let v158 : BitVec 32 := Scalar.remsi v157 c32_i32_148
  let c1_i32_150 : BitVec 32 := 1#32
  let v159 : BitVec 32 := Scalar.muli v158 c1_i32_150
  let v160 : BitVec 32 := Scalar.addi c0_i32_151 v159
  v160.toNat
def k0_off2 (d0 : Dev nD) (c0_i32_154 : BitVec 32) : Fin 2 → Nat :=
  let c0_162 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v164 : BitVec 32 := Scalar.addi v3 c0_i32_154
  let c4_i32_155 : BitVec 32 := 4#32
  let v165 : BitVec 32 := Scalar.remsi v164 c4_i32_155
  let c512_i32_161 : BitVec 32 := 512#32
  let v171 : BitVec 32 := Scalar.muli v165 c512_i32_161
  let v172 : Index := Scalar.indexCast v171
  ![0, v172.toNat]
def k0_off3 (d0 : Dev nD) (c0_i32_154 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v164 : BitVec 32 := Scalar.addi v3 c0_i32_154
  let c4_i32_155 : BitVec 32 := 4#32
  let v165 : BitVec 32 := Scalar.remsi v164 c4_i32_155
  let c512_i32_163 : BitVec 32 := 512#32
  let v179 : BitVec 32 := Scalar.muli v165 c512_i32_163
  let v180 : Index := Scalar.indexCast v179
  let c0_164 : Index := 0#32
  ![v180.toNat, 0]
def k0_off4 (d0 : Dev nD) (c0_i32_154 : BitVec 32) (c0_i32_166 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v164 : BitVec 32 := Scalar.addi v3 c0_i32_154
  let c4_i32_155 : BitVec 32 := 4#32
  let v165 : BitVec 32 := Scalar.remsi v164 c4_i32_155
  let c8_i32_165 : BitVec 32 := 8#32
  let v184 : BitVec 32 := Scalar.muli v165 c8_i32_165
  let v185 : BitVec 32 := Scalar.addi v184 c0_i32_166
  let v186 : BitVec 32 := Scalar.subi v185 v2
  let c32_i32_167 : BitVec 32 := 32#32
  let v187 : BitVec 32 := Scalar.addi v186 c32_i32_167
  let c32_i32_168 : BitVec 32 := 32#32
  let v188 : BitVec 32 := Scalar.remsi v187 c32_i32_168
  ![v188.toNat]
def k0_off5 (d0 : Dev nD) : Fin 2 → Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v190 : BitVec 32 := Scalar.muli v2 c128_i32
  ![0, v190.toNat]
def k0_off6 (d0 : Dev nD) (c0_i32_154 : BitVec 32) (c0_i32_166 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let v164 : BitVec 32 := Scalar.addi v3 c0_i32_154
  let c4_i32_155 : BitVec 32 := 4#32
  let v165 : BitVec 32 := Scalar.remsi v164 c4_i32_155
  let c8_i32_165 : BitVec 32 := 8#32
  let v184 : BitVec 32 := Scalar.muli v165 c8_i32_165
  let v185 : BitVec 32 := Scalar.addi v184 c0_i32_166
  let c64_i32 : BitVec 32 := 64#32
  let v189 : BitVec 32 := Scalar.muli v185 c64_i32
  let c0_i32_172 : BitVec 32 := 0#32
  ![v189.toNat, 0]
def k0_dev32 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c0_i32_154 : BitVec 32 := 0#32
  let v164 : BitVec 32 := Scalar.addi v3 c0_i32_154
  let c4_i32_155 : BitVec 32 := 4#32
  let v165 : BitVec 32 := Scalar.remsi v164 c4_i32_155
  let c8_i32_165 : BitVec 32 := 8#32
  let v184 : BitVec 32 := Scalar.muli v165 c8_i32_165
  let c0_i32_166 : BitVec 32 := 0#32
  let v185 : BitVec 32 := Scalar.addi v184 c0_i32_166
  let c1_i32_169 : BitVec 32 := 1#32
  let v191 : BitVec 32 := Scalar.muli v185 c1_i32_169
  let v192 : BitVec 32 := Scalar.addi c0_i32_170 v191
  v192.toNat
def k0_dev33 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c0_i32_154 : BitVec 32 := 0#32
  let v164 : BitVec 32 := Scalar.addi v3 c0_i32_154
  let c4_i32_155 : BitVec 32 := 4#32
  let v165 : BitVec 32 := Scalar.remsi v164 c4_i32_155
  let c8_i32_173 : BitVec 32 := 8#32
  let v199 : BitVec 32 := Scalar.muli v165 c8_i32_173
  let c1_i32_174 : BitVec 32 := 1#32
  let v200 : BitVec 32 := Scalar.addi v199 c1_i32_174
  let c1_i32_179 : BitVec 32 := 1#32
  let v206 : BitVec 32 := Scalar.muli v200 c1_i32_179
  let v207 : BitVec 32 := Scalar.addi c0_i32_180 v206
  v207.toNat
def k0_dev34 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c0_i32_154 : BitVec 32 := 0#32
  let v164 : BitVec 32 := Scalar.addi v3 c0_i32_154
  let c4_i32_155 : BitVec 32 := 4#32
  let v165 : BitVec 32 := Scalar.remsi v164 c4_i32_155
  let c8_i32_183 : BitVec 32 := 8#32
  let v214 : BitVec 32 := Scalar.muli v165 c8_i32_183
  let c2_i32_184 : BitVec 32 := 2#32
  let v215 : BitVec 32 := Scalar.addi v214 c2_i32_184
  let c1_i32_189 : BitVec 32 := 1#32
  let v221 : BitVec 32 := Scalar.muli v215 c1_i32_189
  let v222 : BitVec 32 := Scalar.addi c0_i32_190 v221
  v222.toNat
def k0_dev35 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c0_i32_154 : BitVec 32 := 0#32
  let v164 : BitVec 32 := Scalar.addi v3 c0_i32_154
  let c4_i32_155 : BitVec 32 := 4#32
  let v165 : BitVec 32 := Scalar.remsi v164 c4_i32_155
  let c8_i32_193 : BitVec 32 := 8#32
  let v229 : BitVec 32 := Scalar.muli v165 c8_i32_193
  let c3_i32_194 : BitVec 32 := 3#32
  let v230 : BitVec 32 := Scalar.addi v229 c3_i32_194
  let c1_i32_199 : BitVec 32 := 1#32
  let v236 : BitVec 32 := Scalar.muli v230 c1_i32_199
  let v237 : BitVec 32 := Scalar.addi c0_i32_200 v236
  v237.toNat
def k0_dev36 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c0_i32_154 : BitVec 32 := 0#32
  let v164 : BitVec 32 := Scalar.addi v3 c0_i32_154
  let c4_i32_155 : BitVec 32 := 4#32
  let v165 : BitVec 32 := Scalar.remsi v164 c4_i32_155
  let c8_i32_203 : BitVec 32 := 8#32
  let v244 : BitVec 32 := Scalar.muli v165 c8_i32_203
  let c4_i32_204 : BitVec 32 := 4#32
  let v245 : BitVec 32 := Scalar.addi v244 c4_i32_204
  let c1_i32_209 : BitVec 32 := 1#32
  let v251 : BitVec 32 := Scalar.muli v245 c1_i32_209
  let v252 : BitVec 32 := Scalar.addi c0_i32_210 v251
  v252.toNat
def k0_dev37 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c0_i32_154 : BitVec 32 := 0#32
  let v164 : BitVec 32 := Scalar.addi v3 c0_i32_154
  let c4_i32_155 : BitVec 32 := 4#32
  let v165 : BitVec 32 := Scalar.remsi v164 c4_i32_155
  let c8_i32_213 : BitVec 32 := 8#32
  let v259 : BitVec 32 := Scalar.muli v165 c8_i32_213
  let c5_i32_214 : BitVec 32 := 5#32
  let v260 : BitVec 32 := Scalar.addi v259 c5_i32_214
  let c1_i32_219 : BitVec 32 := 1#32
  let v266 : BitVec 32 := Scalar.muli v260 c1_i32_219
  let v267 : BitVec 32 := Scalar.addi c0_i32_220 v266
  v267.toNat
def k0_dev38 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c0_i32_154 : BitVec 32 := 0#32
  let v164 : BitVec 32 := Scalar.addi v3 c0_i32_154
  let c4_i32_155 : BitVec 32 := 4#32
  let v165 : BitVec 32 := Scalar.remsi v164 c4_i32_155
  let c8_i32_223 : BitVec 32 := 8#32
  let v274 : BitVec 32 := Scalar.muli v165 c8_i32_223
  let c6_i32_224 : BitVec 32 := 6#32
  let v275 : BitVec 32 := Scalar.addi v274 c6_i32_224
  let c1_i32_229 : BitVec 32 := 1#32
  let v281 : BitVec 32 := Scalar.muli v275 c1_i32_229
  let v282 : BitVec 32 := Scalar.addi c0_i32_230 v281
  v282.toNat
def k0_dev39 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c0_i32_154 : BitVec 32 := 0#32
  let v164 : BitVec 32 := Scalar.addi v3 c0_i32_154
  let c4_i32_155 : BitVec 32 := 4#32
  let v165 : BitVec 32 := Scalar.remsi v164 c4_i32_155
  let c8_i32_233 : BitVec 32 := 8#32
  let v289 : BitVec 32 := Scalar.muli v165 c8_i32_233
  let c7_i32_234 : BitVec 32 := 7#32
  let v290 : BitVec 32 := Scalar.addi v289 c7_i32_234
  let c1_i32_239 : BitVec 32 := 1#32
  let v296 : BitVec 32 := Scalar.muli v290 c1_i32_239
  let v297 : BitVec 32 := Scalar.addi c0_i32_240 v296
  v297.toNat
def k0_dev40 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c1_i32_243 : BitVec 32 := 1#32
  let v304 : BitVec 32 := Scalar.addi v3 c1_i32_243
  let c4_i32_244 : BitVec 32 := 4#32
  let v305 : BitVec 32 := Scalar.remsi v304 c4_i32_244
  let c8_i32_255 : BitVec 32 := 8#32
  let v324 : BitVec 32 := Scalar.muli v305 c8_i32_255
  let c0_i32_256 : BitVec 32 := 0#32
  let v325 : BitVec 32 := Scalar.addi v324 c0_i32_256
  let c1_i32_261 : BitVec 32 := 1#32
  let v331 : BitVec 32 := Scalar.muli v325 c1_i32_261
  let v332 : BitVec 32 := Scalar.addi c0_i32_262 v331
  v332.toNat
def k0_dev41 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c1_i32_243 : BitVec 32 := 1#32
  let v304 : BitVec 32 := Scalar.addi v3 c1_i32_243
  let c4_i32_244 : BitVec 32 := 4#32
  let v305 : BitVec 32 := Scalar.remsi v304 c4_i32_244
  let c8_i32_265 : BitVec 32 := 8#32
  let v339 : BitVec 32 := Scalar.muli v305 c8_i32_265
  let c1_i32_266 : BitVec 32 := 1#32
  let v340 : BitVec 32 := Scalar.addi v339 c1_i32_266
  let c1_i32_271 : BitVec 32 := 1#32
  let v346 : BitVec 32 := Scalar.muli v340 c1_i32_271
  let v347 : BitVec 32 := Scalar.addi c0_i32_272 v346
  v347.toNat
def k0_dev42 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c1_i32_243 : BitVec 32 := 1#32
  let v304 : BitVec 32 := Scalar.addi v3 c1_i32_243
  let c4_i32_244 : BitVec 32 := 4#32
  let v305 : BitVec 32 := Scalar.remsi v304 c4_i32_244
  let c8_i32_275 : BitVec 32 := 8#32
  let v354 : BitVec 32 := Scalar.muli v305 c8_i32_275
  let c2_i32_276 : BitVec 32 := 2#32
  let v355 : BitVec 32 := Scalar.addi v354 c2_i32_276
  let c1_i32_281 : BitVec 32 := 1#32
  let v361 : BitVec 32 := Scalar.muli v355 c1_i32_281
  let v362 : BitVec 32 := Scalar.addi c0_i32_282 v361
  v362.toNat
def k0_dev43 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c1_i32_243 : BitVec 32 := 1#32
  let v304 : BitVec 32 := Scalar.addi v3 c1_i32_243
  let c4_i32_244 : BitVec 32 := 4#32
  let v305 : BitVec 32 := Scalar.remsi v304 c4_i32_244
  let c8_i32_285 : BitVec 32 := 8#32
  let v369 : BitVec 32 := Scalar.muli v305 c8_i32_285
  let c3_i32_286 : BitVec 32 := 3#32
  let v370 : BitVec 32 := Scalar.addi v369 c3_i32_286
  let c1_i32_291 : BitVec 32 := 1#32
  let v376 : BitVec 32 := Scalar.muli v370 c1_i32_291
  let v377 : BitVec 32 := Scalar.addi c0_i32_292 v376
  v377.toNat
def k0_dev44 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c1_i32_243 : BitVec 32 := 1#32
  let v304 : BitVec 32 := Scalar.addi v3 c1_i32_243
  let c4_i32_244 : BitVec 32 := 4#32
  let v305 : BitVec 32 := Scalar.remsi v304 c4_i32_244
  let c8_i32_295 : BitVec 32 := 8#32
  let v384 : BitVec 32 := Scalar.muli v305 c8_i32_295
  let c4_i32_296 : BitVec 32 := 4#32
  let v385 : BitVec 32 := Scalar.addi v384 c4_i32_296
  let c1_i32_301 : BitVec 32 := 1#32
  let v391 : BitVec 32 := Scalar.muli v385 c1_i32_301
  let v392 : BitVec 32 := Scalar.addi c0_i32_302 v391
  v392.toNat
def k0_dev45 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c1_i32_243 : BitVec 32 := 1#32
  let v304 : BitVec 32 := Scalar.addi v3 c1_i32_243
  let c4_i32_244 : BitVec 32 := 4#32
  let v305 : BitVec 32 := Scalar.remsi v304 c4_i32_244
  let c8_i32_305 : BitVec 32 := 8#32
  let v399 : BitVec 32 := Scalar.muli v305 c8_i32_305
  let c5_i32_306 : BitVec 32 := 5#32
  let v400 : BitVec 32 := Scalar.addi v399 c5_i32_306
  let c1_i32_311 : BitVec 32 := 1#32
  let v406 : BitVec 32 := Scalar.muli v400 c1_i32_311
  let v407 : BitVec 32 := Scalar.addi c0_i32_312 v406
  v407.toNat
def k0_dev46 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c1_i32_243 : BitVec 32 := 1#32
  let v304 : BitVec 32 := Scalar.addi v3 c1_i32_243
  let c4_i32_244 : BitVec 32 := 4#32
  let v305 : BitVec 32 := Scalar.remsi v304 c4_i32_244
  let c8_i32_315 : BitVec 32 := 8#32
  let v414 : BitVec 32 := Scalar.muli v305 c8_i32_315
  let c6_i32_316 : BitVec 32 := 6#32
  let v415 : BitVec 32 := Scalar.addi v414 c6_i32_316
  let c1_i32_321 : BitVec 32 := 1#32
  let v421 : BitVec 32 := Scalar.muli v415 c1_i32_321
  let v422 : BitVec 32 := Scalar.addi c0_i32_322 v421
  v422.toNat
def k0_dev47 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c1_i32_243 : BitVec 32 := 1#32
  let v304 : BitVec 32 := Scalar.addi v3 c1_i32_243
  let c4_i32_244 : BitVec 32 := 4#32
  let v305 : BitVec 32 := Scalar.remsi v304 c4_i32_244
  let c8_i32_325 : BitVec 32 := 8#32
  let v429 : BitVec 32 := Scalar.muli v305 c8_i32_325
  let c7_i32_326 : BitVec 32 := 7#32
  let v430 : BitVec 32 := Scalar.addi v429 c7_i32_326
  let c1_i32_331 : BitVec 32 := 1#32
  let v436 : BitVec 32 := Scalar.muli v430 c1_i32_331
  let v437 : BitVec 32 := Scalar.addi c0_i32_332 v436
  v437.toNat
def k0_dev48 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c2_i32_335 : BitVec 32 := 2#32
  let v444 : BitVec 32 := Scalar.addi v3 c2_i32_335
  let c4_i32_336 : BitVec 32 := 4#32
  let v445 : BitVec 32 := Scalar.remsi v444 c4_i32_336
  let c8_i32_347 : BitVec 32 := 8#32
  let v464 : BitVec 32 := Scalar.muli v445 c8_i32_347
  let c0_i32_348 : BitVec 32 := 0#32
  let v465 : BitVec 32 := Scalar.addi v464 c0_i32_348
  let c1_i32_353 : BitVec 32 := 1#32
  let v471 : BitVec 32 := Scalar.muli v465 c1_i32_353
  let v472 : BitVec 32 := Scalar.addi c0_i32_354 v471
  v472.toNat
def k0_dev49 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c2_i32_335 : BitVec 32 := 2#32
  let v444 : BitVec 32 := Scalar.addi v3 c2_i32_335
  let c4_i32_336 : BitVec 32 := 4#32
  let v445 : BitVec 32 := Scalar.remsi v444 c4_i32_336
  let c8_i32_357 : BitVec 32 := 8#32
  let v479 : BitVec 32 := Scalar.muli v445 c8_i32_357
  let c1_i32_358 : BitVec 32 := 1#32
  let v480 : BitVec 32 := Scalar.addi v479 c1_i32_358
  let c1_i32_363 : BitVec 32 := 1#32
  let v486 : BitVec 32 := Scalar.muli v480 c1_i32_363
  let v487 : BitVec 32 := Scalar.addi c0_i32_364 v486
  v487.toNat
def k0_dev50 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c2_i32_335 : BitVec 32 := 2#32
  let v444 : BitVec 32 := Scalar.addi v3 c2_i32_335
  let c4_i32_336 : BitVec 32 := 4#32
  let v445 : BitVec 32 := Scalar.remsi v444 c4_i32_336
  let c8_i32_367 : BitVec 32 := 8#32
  let v494 : BitVec 32 := Scalar.muli v445 c8_i32_367
  let c2_i32_368 : BitVec 32 := 2#32
  let v495 : BitVec 32 := Scalar.addi v494 c2_i32_368
  let c1_i32_373 : BitVec 32 := 1#32
  let v501 : BitVec 32 := Scalar.muli v495 c1_i32_373
  let v502 : BitVec 32 := Scalar.addi c0_i32_374 v501
  v502.toNat
def k0_dev51 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c2_i32_335 : BitVec 32 := 2#32
  let v444 : BitVec 32 := Scalar.addi v3 c2_i32_335
  let c4_i32_336 : BitVec 32 := 4#32
  let v445 : BitVec 32 := Scalar.remsi v444 c4_i32_336
  let c8_i32_377 : BitVec 32 := 8#32
  let v509 : BitVec 32 := Scalar.muli v445 c8_i32_377
  let c3_i32_378 : BitVec 32 := 3#32
  let v510 : BitVec 32 := Scalar.addi v509 c3_i32_378
  let c1_i32_383 : BitVec 32 := 1#32
  let v516 : BitVec 32 := Scalar.muli v510 c1_i32_383
  let v517 : BitVec 32 := Scalar.addi c0_i32_384 v516
  v517.toNat
def k0_dev52 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c2_i32_335 : BitVec 32 := 2#32
  let v444 : BitVec 32 := Scalar.addi v3 c2_i32_335
  let c4_i32_336 : BitVec 32 := 4#32
  let v445 : BitVec 32 := Scalar.remsi v444 c4_i32_336
  let c8_i32_387 : BitVec 32 := 8#32
  let v524 : BitVec 32 := Scalar.muli v445 c8_i32_387
  let c4_i32_388 : BitVec 32 := 4#32
  let v525 : BitVec 32 := Scalar.addi v524 c4_i32_388
  let c1_i32_393 : BitVec 32 := 1#32
  let v531 : BitVec 32 := Scalar.muli v525 c1_i32_393
  let v532 : BitVec 32 := Scalar.addi c0_i32_394 v531
  v532.toNat
def k0_dev53 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c2_i32_335 : BitVec 32 := 2#32
  let v444 : BitVec 32 := Scalar.addi v3 c2_i32_335
  let c4_i32_336 : BitVec 32 := 4#32
  let v445 : BitVec 32 := Scalar.remsi v444 c4_i32_336
  let c8_i32_397 : BitVec 32 := 8#32
  let v539 : BitVec 32 := Scalar.muli v445 c8_i32_397
  let c5_i32_398 : BitVec 32 := 5#32
  let v540 : BitVec 32 := Scalar.addi v539 c5_i32_398
  let c1_i32_403 : BitVec 32 := 1#32
  let v546 : BitVec 32 := Scalar.muli v540 c1_i32_403
  let v547 : BitVec 32 := Scalar.addi c0_i32_404 v546
  v547.toNat
def k0_dev54 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c2_i32_335 : BitVec 32 := 2#32
  let v444 : BitVec 32 := Scalar.addi v3 c2_i32_335
  let c4_i32_336 : BitVec 32 := 4#32
  let v445 : BitVec 32 := Scalar.remsi v444 c4_i32_336
  let c8_i32_407 : BitVec 32 := 8#32
  let v554 : BitVec 32 := Scalar.muli v445 c8_i32_407
  let c6_i32_408 : BitVec 32 := 6#32
  let v555 : BitVec 32 := Scalar.addi v554 c6_i32_408
  let c1_i32_413 : BitVec 32 := 1#32
  let v561 : BitVec 32 := Scalar.muli v555 c1_i32_413
  let v562 : BitVec 32 := Scalar.addi c0_i32_414 v561
  v562.toNat
def k0_dev55 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c2_i32_335 : BitVec 32 := 2#32
  let v444 : BitVec 32 := Scalar.addi v3 c2_i32_335
  let c4_i32_336 : BitVec 32 := 4#32
  let v445 : BitVec 32 := Scalar.remsi v444 c4_i32_336
  let c8_i32_417 : BitVec 32 := 8#32
  let v569 : BitVec 32 := Scalar.muli v445 c8_i32_417
  let c7_i32_418 : BitVec 32 := 7#32
  let v570 : BitVec 32 := Scalar.addi v569 c7_i32_418
  let c1_i32_423 : BitVec 32 := 1#32
  let v576 : BitVec 32 := Scalar.muli v570 c1_i32_423
  let v577 : BitVec 32 := Scalar.addi c0_i32_424 v576
  v577.toNat
def k0_dev56 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c3_i32_427 : BitVec 32 := 3#32
  let v584 : BitVec 32 := Scalar.addi v3 c3_i32_427
  let c4_i32_428 : BitVec 32 := 4#32
  let v585 : BitVec 32 := Scalar.remsi v584 c4_i32_428
  let c8_i32_439 : BitVec 32 := 8#32
  let v604 : BitVec 32 := Scalar.muli v585 c8_i32_439
  let c0_i32_440 : BitVec 32 := 0#32
  let v605 : BitVec 32 := Scalar.addi v604 c0_i32_440
  let c1_i32_445 : BitVec 32 := 1#32
  let v611 : BitVec 32 := Scalar.muli v605 c1_i32_445
  let v612 : BitVec 32 := Scalar.addi c0_i32_446 v611
  v612.toNat
def k0_dev57 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c3_i32_427 : BitVec 32 := 3#32
  let v584 : BitVec 32 := Scalar.addi v3 c3_i32_427
  let c4_i32_428 : BitVec 32 := 4#32
  let v585 : BitVec 32 := Scalar.remsi v584 c4_i32_428
  let c8_i32_449 : BitVec 32 := 8#32
  let v619 : BitVec 32 := Scalar.muli v585 c8_i32_449
  let c1_i32_450 : BitVec 32 := 1#32
  let v620 : BitVec 32 := Scalar.addi v619 c1_i32_450
  let c1_i32_455 : BitVec 32 := 1#32
  let v626 : BitVec 32 := Scalar.muli v620 c1_i32_455
  let v627 : BitVec 32 := Scalar.addi c0_i32_456 v626
  v627.toNat
def k0_dev58 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c3_i32_427 : BitVec 32 := 3#32
  let v584 : BitVec 32 := Scalar.addi v3 c3_i32_427
  let c4_i32_428 : BitVec 32 := 4#32
  let v585 : BitVec 32 := Scalar.remsi v584 c4_i32_428
  let c8_i32_459 : BitVec 32 := 8#32
  let v634 : BitVec 32 := Scalar.muli v585 c8_i32_459
  let c2_i32_460 : BitVec 32 := 2#32
  let v635 : BitVec 32 := Scalar.addi v634 c2_i32_460
  let c1_i32_465 : BitVec 32 := 1#32
  let v641 : BitVec 32 := Scalar.muli v635 c1_i32_465
  let v642 : BitVec 32 := Scalar.addi c0_i32_466 v641
  v642.toNat
def k0_dev59 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c3_i32_427 : BitVec 32 := 3#32
  let v584 : BitVec 32 := Scalar.addi v3 c3_i32_427
  let c4_i32_428 : BitVec 32 := 4#32
  let v585 : BitVec 32 := Scalar.remsi v584 c4_i32_428
  let c8_i32_469 : BitVec 32 := 8#32
  let v649 : BitVec 32 := Scalar.muli v585 c8_i32_469
  let c3_i32_470 : BitVec 32 := 3#32
  let v650 : BitVec 32 := Scalar.addi v649 c3_i32_470
  let c1_i32_475 : BitVec 32 := 1#32
  let v656 : BitVec 32 := Scalar.muli v650 c1_i32_475
  let v657 : BitVec 32 := Scalar.addi c0_i32_476 v656
  v657.toNat
def k0_dev60 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c3_i32_427 : BitVec 32 := 3#32
  let v584 : BitVec 32 := Scalar.addi v3 c3_i32_427
  let c4_i32_428 : BitVec 32 := 4#32
  let v585 : BitVec 32 := Scalar.remsi v584 c4_i32_428
  let c8_i32_479 : BitVec 32 := 8#32
  let v664 : BitVec 32 := Scalar.muli v585 c8_i32_479
  let c4_i32_480 : BitVec 32 := 4#32
  let v665 : BitVec 32 := Scalar.addi v664 c4_i32_480
  let c1_i32_485 : BitVec 32 := 1#32
  let v671 : BitVec 32 := Scalar.muli v665 c1_i32_485
  let v672 : BitVec 32 := Scalar.addi c0_i32_486 v671
  v672.toNat
def k0_dev61 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c3_i32_427 : BitVec 32 := 3#32
  let v584 : BitVec 32 := Scalar.addi v3 c3_i32_427
  let c4_i32_428 : BitVec 32 := 4#32
  let v585 : BitVec 32 := Scalar.remsi v584 c4_i32_428
  let c8_i32_489 : BitVec 32 := 8#32
  let v679 : BitVec 32 := Scalar.muli v585 c8_i32_489
  let c5_i32_490 : BitVec 32 := 5#32
  let v680 : BitVec 32 := Scalar.addi v679 c5_i32_490
  let c1_i32_495 : BitVec 32 := 1#32
  let v686 : BitVec 32 := Scalar.muli v680 c1_i32_495
  let v687 : BitVec 32 := Scalar.addi c0_i32_496 v686
  v687.toNat
def k0_dev62 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c3_i32_427 : BitVec 32 := 3#32
  let v584 : BitVec 32 := Scalar.addi v3 c3_i32_427
  let c4_i32_428 : BitVec 32 := 4#32
  let v585 : BitVec 32 := Scalar.remsi v584 c4_i32_428
  let c8_i32_499 : BitVec 32 := 8#32
  let v694 : BitVec 32 := Scalar.muli v585 c8_i32_499
  let c6_i32_500 : BitVec 32 := 6#32
  let v695 : BitVec 32 := Scalar.addi v694 c6_i32_500
  let c1_i32_505 : BitVec 32 := 1#32
  let v701 : BitVec 32 := Scalar.muli v695 c1_i32_505
  let v702 : BitVec 32 := Scalar.addi c0_i32_506 v701
  v702.toNat
def k0_dev63 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.remsi v2 c4_i32
  let c3_i32_427 : BitVec 32 := 3#32
  let v584 : BitVec 32 := Scalar.addi v3 c3_i32_427
  let c4_i32_428 : BitVec 32 := 4#32
  let v585 : BitVec 32 := Scalar.remsi v584 c4_i32_428
  let c8_i32_509 : BitVec 32 := 8#32
  let v709 : BitVec 32 := Scalar.muli v585 c8_i32_509
  let c7_i32_510 : BitVec 32 := 7#32
  let v710 : BitVec 32 := Scalar.addi v709 c7_i32_510
  let c1_i32_515 : BitVec 32 := 1#32
  let v716 : BitVec 32 := Scalar.muli v710 c1_i32_515
  let v717 : BitVec 32 := Scalar.addi c0_i32_516 v716
  v717.toNat
def k0_off7 (d0 : Dev nD) (c0_i32_519 : BitVec 32) : Fin 2 → Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v724 : BitVec 32 := Scalar.subi v2 c0_i32_519
  let c32_i32_520 : BitVec 32 := 32#32
  let v725 : BitVec 32 := Scalar.addi v724 c32_i32_520
  let c32_i32_521 : BitVec 32 := 32#32
  let v726 : BitVec 32 := Scalar.remsi v725 c32_i32_521
  let c128_i32_522 : BitVec 32 := 128#32
  let v727 : BitVec 32 := Scalar.muli v726 c128_i32_522
  ![0, v727.toNat]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Sched.lean ====
/-
The protocol of the all-to-all product on its 32 devices: resource algebra, semaphore cells, the contents each
buffer reaches, the one-round schedule of every cell, the levels, what a device owes at launch.

A device computes 32 row blocks of its transposed product (64 rows each, one for every device) and sends block `d` to
device `d`, into the columns of its landing buffer that belong to the sender. Before the first send everyone has
signalled everyone: the signal of `d` to `c` lends `c` its columns of `d`'s landing buffer. Every DMA semaphore is a
cell of one duty, the runtime's barrier semaphore a cell of 31.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by a device -/

abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-! ## Arithmetic of the mesh -/

/-- The device `q` places after `c`. -/
def shift (c : Dev nD) (q : Fin 32) : Dev nD := ⟨(c.val + q.val) % 32, Nat.mod_lt _ (by decide)⟩

/-- The slot of the transfer from `s` to `r`: how far `r` lies after `s`. -/
def slot (s r : Dev nD) : Fin 32 := ⟨(r.val + 32 - s.val) % 32, Nat.mod_lt _ (by decide)⟩

/-- The column chunk device `c` computes `j`-th. -/
def chunk (c : Dev nD) (j : Fin 4) : Fin 4 := ⟨(c.val % 4 + j.val) % 4, Nat.mod_lt _ (by decide)⟩

/-- The device `c` sends to `t`-th: eight for every chunk, in order. -/
def peer (c : Dev nD) (t : Fin 32) : Dev nD :=
  ⟨8 * ((c.val % 4 + t.val / 8) % 4) + t.val % 8, by
    have := Nat.mod_lt (c.val % 4 + t.val / 8) (show 0 < 4 by decide)
    have := Nat.mod_lt t.val (show 0 < 8 by decide)
    show _ < 32
    omega⟩

/-- The device whose transfer lands on `c` at slot `p`. -/
def source (c : Dev nD) (p : Fin 32) : Dev nD := ⟨(c.val + 32 - p.val) % 32, Nat.mod_lt _ (by decide)⟩

theorem dev_lt (c : Dev nD) : c.val < 32 := c.isLt

/-- Walking from `c` reaches every device once. -/
def walk (c : Dev nD) : Fin 32 ≃ Dev nD where
  toFun := shift c
  invFun := slot c
  left_inv q := Fin.ext (by have := dev_lt c; have := q.isLt; simp only [shift, slot]; omega)
  right_inv d := Fin.ext (by have := dev_lt c; have := dev_lt d; simp only [shift, slot]; omega)

/-- The sends of `c` reach every device once. -/
def sends (c : Dev nD) : Fin 32 ≃ Dev nD where
  toFun := peer c
  invFun d := ⟨8 * ((d.val / 8 + 4 - c.val % 4) % 4) + d.val % 8, by have := dev_lt c; have := dev_lt d; omega⟩
  left_inv q := Fin.ext (by have := dev_lt c; have := q.isLt; simp only [peer]; omega)
  right_inv d := Fin.ext (by have := dev_lt c; have := dev_lt d; simp only [peer]; omega)

/-- Every slot of `c` is filled by one device. -/
def sources (c : Dev nD) : Fin 32 ≃ Dev nD where
  toFun := source c
  invFun d := slot d c
  left_inv q := Fin.ext (by have := dev_lt c; have := q.isLt; simp only [source, slot]; omega)
  right_inv d := Fin.ext (by have := dev_lt c; have := dev_lt d; simp only [source, slot]; omega)

/-- The chunks of `c` are the four. -/
def chunks (c : Dev nD) : Fin 4 ≃ Fin 4 where
  toFun := chunk c
  invFun k := ⟨(k.val + 4 - c.val % 4) % 4, by omega⟩
  left_inv q := Fin.ext (by have := q.isLt; simp only [chunk]; omega)
  right_inv d := Fin.ext (by have := d.isLt; simp only [chunk]; omega)

theorem source_slot (s r : Dev nD) : source r (slot s r) = s := (sources r).right_inv s
theorem shift_slot (s r : Dev nD) : shift s (slot s r) = r := (walk s).right_inv r

/-! ## The cells -/

/-- The runtime's barrier semaphore (unscoped). -/
abbrev barS : Sem sig := (SemArray.scalar (sig.barrier 0 rfl) : Sems sig S_).sem

/-- The kernel's own semaphores: copy of `x`, four copies of `w`, 32 sends, 32 receives, in this order. -/
abbrev osem (n : Fin 69) : SemLoc sig := .dma ⟨n.val + 3, Nat.lt_of_lt_of_le (Nat.add_lt_add_right n.isLt 3) (by decide)⟩

/-- Every semaphore of the exchange: the barrier and the kernel's own. -/
abbrev csem : Option (Fin 69) → SemLoc sig
  | none => .reg barS
  | some n => osem n

abbrev kcell (ck : Dev nD × Option (Fin 69)) : GSem nD τ sig := ((ck.1 : Thread nD τ), csem ck.2)

abbrev xN : Fin 69 := 0
def wN (j : Fin 4) : Fin 69 := ⟨1 + j.val, by omega⟩
def sN (s : Fin 32) : Fin 69 := ⟨5 + s.val, by omega⟩
def rN (p : Fin 32) : Fin 69 := ⟨37 + p.val, by omega⟩

abbrev barCell (c : Dev nD) : GSem nD τ sig := kcell (c, none)
abbrev ownCell (c : Dev nD) (n : Fin 69) : GSem nD τ sig := kcell (c, some n)

/-! ## Contents -/

/-- The launch contents of the two arrays the kernel reads by itself, as contents of the buffers they are copied to. -/
def xC (c : Dev nD) : Buf (Elt F) ((c : Thread nD τ).loc cc0_scratch0) := m ((c : Thread nD τ).loc main_arg0)
def wC (c : Dev nD) : Buf (Elt F) ((c : Thread nD τ).loc cc0_scratch1) := m ((c : Thread nD τ).loc main_arg1)

/-- The two scales as staged. -/
def stg0 (c : Dev nD) : (cc0_stg0_0 : Ref sig .tc).ty.Contents (Elt F) :=
  (win0_0.blk (0 : Fin 1)).view.read (Elt F) (m ((c : Thread nD τ).loc main_arg2))
def stg1 (c : Dev nD) : (cc0_stg1_0 : Ref sig .tc).ty.Contents (Elt F) :=
  (win0_1.blk (0 : Fin 1)).view.read (Elt F) (m ((c : Thread nD τ).loc main_arg3))

/-- The only index of a one-element array. -/
def i0 : S1.Idx := fun a => ⟨0, by obtain rfl : a = 0 := Subsingleton.elim _ _; decide⟩

/-- Column chunk `k` of `w`. -/
def wCol (c : Dev nD) (k : Fin 4) : Vec F S4096x512 .f32 := fun i =>
  wC m c (Shape.pair (d := ![4096, 2048]) (i 0) ⟨512 * k.val + (i 1).val, by
    have h : (i 1).val < 512 := (i 1).isLt
    show _ < 2048
    omega⟩)

/-- What device `c` computes for chunk `k`: the scaled product with the chunk, transposed. -/
def chunkVal (c : Dev nD) (k : Fin 4) : FVec F S512x128 .bf16 :=
  k0_pay3 (k0_pay2 (stg0 m c i0) (stg1 m c i0) (xC m c) (wCol m c k))

/-- The product buffer of device `c` when all chunks are stored. -/
def accC (c : Dev nD) : Buf (Elt F) ((c : Thread nD τ).loc cc0_scratch2) := fun (i : S2048x128.Idx) =>
  chunkVal m c ⟨(i 0).val / 512, by have h : (i 0).val < 2048 := (i 0).isLt; omega⟩
    (Shape.pair (d := ![512, 128]) ⟨(i 0).val % 512, Nat.mod_lt _ (by decide)⟩ (i 1))

/-- The landing buffer of device `c` when every transfer has landed. -/
def outC (c : Dev nD) : Buf (Elt F) ((c : Thread nD τ).loc cc0_scratch3) := fun (i : S64x4096.Idx) =>
  accC m (⟨(i 1).val / 128, by have h : (i 1).val < 4096 := (i 1).isLt; show _ < 32; omega⟩ : Dev nD)
    (Shape.pair (d := ![2048, 128]) ⟨64 * c.val + (i 0).val, by
        have h : (i 0).val < 64 := (i 0).isLt
        have := dev_lt c
        show _ < 2048
        omega⟩ ⟨(i 1).val % 128, Nat.mod_lt _ (by decide)⟩)

/-- The kernel's result on device `c`. -/
def resC (c : Dev nD) : (cc0_stg2_0 : Ref sig .tc).ty.Contents (Elt F) := k0_pay10 (outC m c)

/-! ## Blocks of buffers -/

/-- Columns of chunk `k` of `w`; rows of `acc` for device `d`; rows of `acc` of chunk `k`; columns of the landing
    buffer for device `d`. -/
def wSet (k : Fin 4) : Finset S4096x2048.Idx := Finset.univ.filter fun i => (i 1).val / 512 = k.val
def accSet (d : Dev nD) : Finset S2048x128.Idx := Finset.univ.filter fun i => (i 0).val / 64 = d.val
def accChunk (k : Fin 4) : Finset S2048x128.Idx := Finset.univ.filter fun i => (i 0).val / 512 = k.val
def outSet (d : Dev nD) : Finset S64x4096.Idx := Finset.univ.filter fun i => (i 1).val / 128 = d.val

def xPts (c : Dev nD) (f : Buf (Elt F) ((c : Thread nD τ).loc cc0_scratch0)) : sProp 𝕄 := (c : Thread nD τ).loc cc0_scratch0 ↦{fullShare} f
def xSrc (c : Dev nD) : sProp 𝕄 := (c : Thread nD τ).loc main_arg0 ↦{fullShare} m ((c : Thread nD τ).loc main_arg0)
def wPts (c : Dev nD) (k : Fin 4) (f : Buf (Elt F) ((c : Thread nD τ).loc cc0_scratch1)) : sProp 𝕄 := (c : Thread nD τ).loc cc0_scratch1 ↦[wSet k]{fullShare} f
def wSrc (c : Dev nD) (k : Fin 4) : sProp 𝕄 := (c : Thread nD τ).loc main_arg1 ↦[wSet k]{fullShare} m ((c : Thread nD τ).loc main_arg1)
def accPts (c d : Dev nD) (f : Buf (Elt F) ((c : Thread nD τ).loc cc0_scratch2)) : sProp 𝕄 := (c : Thread nD τ).loc cc0_scratch2 ↦[accSet d]{fullShare} f
def chkPts (c : Dev nD) (k : Fin 4) (f : Buf (Elt F) ((c : Thread nD τ).loc cc0_scratch2)) : sProp 𝕄 := (c : Thread nD τ).loc cc0_scratch2 ↦[accChunk k]{fullShare} f
def outPts (c d : Dev nD) (f : Buf (Elt F) ((c : Thread nD τ).loc cc0_scratch3)) : sProp 𝕄 := (c : Thread nD τ).loc cc0_scratch3 ↦[outSet d]{fullShare} f

/-! ## The schedule -/

/-- What device `d`'s signal hands device `c`: `c`'s columns of `d`'s landing buffer. -/
def barPay (c d : Dev nD) : sProp 𝕄 := iprop(∃ f, outPts d c f)

/-- What the round of own cell `n` of device `c` hands it. -/
def ownPay (c : Dev nD) (n : Fin 69) : sProp 𝕄 :=
  if n.val = 0 then iprop(xPts c (xC m c) ∗ xSrc m c)
  else if h : n.val < 5 then iprop(wPts c (chunk c ⟨n.val - 1, by omega⟩) (wC m c) ∗ wSrc m c (chunk c ⟨n.val - 1, by omega⟩))
  else if h : n.val < 37 then accPts c (shift c ⟨n.val - 5, by omega⟩) (accC m c)
  else outPts c (source c ⟨n.val - 37, by omega⟩) (outC m c)

/-- The credit of the copy of `x`, of a chunk of `w`, of a transferred block. -/
abbrev NX : ℕ := (Memref.whole cc0_scratch0 : Memref sig .tc .vmem S128x4096 .f32).view.dmaCredit
abbrev NW : ℕ := sig.dmaCredit .tc (Kind.tc.table .vmem) (cc0_scratch1 : Ref sig .tc).idx S4096x512 .f32
abbrev NB : ℕ := sig.dmaCredit .tc (Kind.tc.table .vmem) (cc0_scratch3 : Ref sig .tc).idx S64x128 .bf16

theorem NX_pos : 0 < NX := View.dmaCredit_pos _ (by decide)
theorem NW_pos : 0 < NW := sig.dmaCredit_pos _ _ _ _ _ (by decide)
theorem NB_pos : 0 < NB := sig.dmaCredit_pos _ _ _ _ _ (by decide)

/-- The amount a duty of own cell `n` pays. -/
def ownAmt (n : ℕ) : ℕ := if n = 0 then NX else if n < 5 then NW else NB

theorem ownAmt_pos (n : ℕ) : 0 < ownAmt n := by
  unfold ownAmt; split
  · exact NX_pos
  split
  · exact NW_pos
  · exact NB_pos

/-- Round 0 only: the barrier cell of `c` has a duty of one unit for every other device, an own cell one duty. -/
def sched : Rounds.Schedule (GSem nD τ sig) (Dev nD) 𝕄 where
  duties g r := if r = 0 ∧ g.1.2 = .tc then (match g.2 with
    | .reg _ => Finset.univ.erase g.1.1
    | .dma q => if 3 ≤ q.val then {0} else ∅) else ∅
  unitless _ := False
  amount g _ _ := match g.2 with
    | .reg _ => 1
    | .dma q => ownAmt (q.val - 3)
  payload g _ d := match g.2 with
    | .reg _ => barPay g.1.1 d
    | .dma q => if h : q.val - 3 < 69 then ownPay m g.1.1 ⟨q.val - 3, h⟩ else iprop(emp)
  amount_pos g _ _ _ := by
    rcases g with ⟨_, _ | q⟩
    · exact Nat.one_pos
    · exact ownAmt_pos _

instance sched_payload_storable (g : GSem nD τ sig) (r : ℕ) (d : Dev nD) :
    BI.Storable (upEmb : UEmb _ 𝕄) ((sched (F := F) m).payload g r d) := by
  rcases g with ⟨c, _ | q⟩
  · show BI.Storable upEmb (barPay c.1 d)
    unfold barPay outPts; infer_instance
  · show BI.Storable upEmb (if h : q.val - 3 < 69 then ownPay m c.1 ⟨q.val - 3, h⟩ else iprop(emp))
    unfold ownPay xPts xSrc wPts wSrc accPts outPts
    (repeat' split) <;> infer_instance

section Tables
variable (c : Dev nD)

omit [FloatOps F] in
theorem own_val (n : Fin 69) : n.val + 3 - 3 = n.val := Nat.add_sub_cancel _ _

theorem duties_bar : (sched (F := F) m).duties (barCell c) 0 = Finset.univ.erase c := by dsimp only [sched]; exact if_pos ⟨rfl, rfl⟩
theorem duties_own (n : Fin 69) : (sched (F := F) m).duties (ownCell c n) 0 = {0} := by
  dsimp only [sched]; exact (if_pos ⟨rfl, rfl⟩).trans (if_pos (Nat.le_add_left 3 n.val))
theorem duties_later (g : GSem nD τ sig) : ∀ r, 1 ≤ r → (sched (F := F) m).duties g r = ∅ := fun r hr => if_neg fun h => by omega
theorem amount_bar (r : ℕ) (d : Dev nD) : (sched (F := F) m).amount (barCell c) r d = 1 := rfl
theorem amount_own (n : Fin 69) (r : ℕ) (d : Dev nD) : (sched (F := F) m).amount (ownCell c n) r d = ownAmt n.val := rfl
theorem payload_bar (r : ℕ) (d : Dev nD) : (sched (F := F) m).payload (barCell c) r d = barPay c d := rfl
theorem payload_own (n : Fin 69) (r : ℕ) (d : Dev nD) : (sched (F := F) m).payload (ownCell c n) r d = ownPay m c n :=
  dif_pos (c := n.val + 3 - 3 < 69) n.isLt

theorem expect_bar : (sched (F := F) m).expect (barCell c) 0 = 31 := by
  unfold Schedule.expect Schedule.amountOf
  rw [duties_bar, Finset.sum_congr rfl fun d _ => amount_bar m c 0 d, Finset.sum_const, Finset.card_erase_of_mem (Finset.mem_univ _), Finset.card_univ]
  rfl
theorem expect_own (n : Fin 69) : (sched (F := F) m).expect (ownCell c n) 0 = ownAmt n.val := by
  unfold Schedule.expect Schedule.amountOf; rw [duties_own, Finset.sum_singleton, amount_own]

theorem rest_bar : bigSep ((sched (F := F) m).duties (barCell c) 0 \ ∅) (fun d => (sched (F := F) m).payload (barCell c) 0 d)
    = bigSep (Finset.univ.erase c) (fun d => barPay (F := F) c d) := by
  rw [Finset.sdiff_empty, duties_bar]; rfl
theorem rest_own (n : Fin 69) : bigSep ((sched (F := F) m).duties (ownCell c n) 0 \ ∅) (fun d => (sched (F := F) m).payload (ownCell c n) 0 d)
    = ownPay m c n := by
  rw [Finset.sdiff_empty, duties_own, bigSep_singleton, payload_own]

theorem ownPay_x : ownPay m c xN = iprop(xPts c (xC m c) ∗ xSrc m c) := rfl
theorem ownPay_w (j : Fin 4) : ownPay m c (wN j) = iprop(wPts c (chunk c j) (wC m c) ∗ wSrc m c (chunk c j)) := by
  have e : (⟨(wN j).val - 1, by simp only [wN]; omega⟩ : Fin 4) = j := Fin.ext (by simp only [wN]; omega)
  unfold ownPay
  rw [if_neg (by simp only [wN]; omega), dif_pos (by simp only [wN]; omega), e]
theorem ownPay_s (s : Fin 32) : ownPay m c (sN s) = accPts c (shift c s) (accC m c) := by
  have e : (⟨(sN s).val - 5, by simp only [sN]; omega⟩ : Fin 32) = s := Fin.ext (by simp only [sN]; omega)
  unfold ownPay
  rw [if_neg (by simp only [sN]; omega), dif_neg (by simp only [sN]; omega), dif_pos (by simp only [sN]; omega), e]
theorem ownPay_r (p : Fin 32) : ownPay m c (rN p) = outPts c (source c p) (outC m c) := by
  have e : (⟨(rN p).val - 37, by simp only [rN]; omega⟩ : Fin 32) = p := Fin.ext (by simp only [rN]; omega)
  unfold ownPay
  rw [if_neg (by simp only [rN]; omega), dif_neg (by simp only [rN]; omega), dif_neg (by simp only [rN]; omega), e]

theorem ownAmt_x : ownAmt (xN : Fin 69).val = NX := rfl
theorem ownAmt_w (j : Fin 4) : ownAmt (wN j).val = NW := by
  unfold ownAmt; rw [if_neg (by simp only [wN]; omega), if_pos (by simp only [wN]; omega)]
theorem ownAmt_s (s : Fin 32) : ownAmt (sN s).val = NB := by
  unfold ownAmt; rw [if_neg (by simp only [sN]; omega), if_neg (by simp only [sN]; omega)]
theorem ownAmt_r (p : Fin 32) : ownAmt (rN p).val = NB := by
  unfold ownAmt; rw [if_neg (by simp only [rN]; omega), if_neg (by simp only [rN]; omega)]

end Tables

/-! ## What each device owes; the levels -/

/-- The receive cell the `t`-th send of `c` pays. -/
abbrev destCell (c : Dev nD) (t : Fin 32) : GSem nD τ sig := ownCell (peer c t) (rN (slot c (peer c t)))

/-- What is still owed to receive cells before send `t`; to barrier cells before signal `q`. -/
def owedR (c : Dev nD) (t : ℕ) : CellTallies nD τ sig Unit := ∑ i : Fin 32 with t ≤ i.val, tallyAt (destCell c i) () NB
def owedB (c : Dev nD) (q : ℕ) : CellTallies nD τ sig Unit := ∑ i : Fin 32 with q ≤ i.val, tallyAt (barCell (shift c i)) () 1

/-- At launch: a unit to every other device's barrier, a block's credit to one receive cell of every device. -/
def O₀ (c : Dev nD) : CellTallies nD τ sig Unit := owedR c 0 + owedB c 1

def L (g : GSem nD τ sig) : Finset Unit := if g.1.2 = .tc then {()} else ∅
/-- Barrier cells at 1, receive cells at 2, every other cell at 0. -/
def lv (g : GSem nD τ sig) (_ : Unit) : ℕ := match g.2 with
  | .reg _ => 1
  | .dma q => if 40 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_sum_pos {ι : Type} (s : Finset ι) (f : ι → GSem nD τ sig) (k : ℕ) {g : GSem nD τ sig} {u : Unit}
    (h : 0 < (∑ i ∈ s, (tallyAt (f i) () k : CellTallies nD τ sig Unit)) g u) : ∃ i ∈ s, g = f i := by
  by_contra hn
  refine absurd h (Nat.not_lt.mpr (Nat.le_zero.mpr ?_))
  rw [Finset.sum_apply, Finsupp.finset_sum_apply]
  refine Finset.sum_eq_zero fun i hi => ?_
  rw [tallyAt_apply, if_neg fun h' => hn ⟨i, hi, h'.1⟩]

theorem owedR_pos {c : Dev nD} {t : ℕ} {g : GSem nD τ sig} {u : Unit} (h : 0 < owedR c t g u) : ∃ i : Fin 32, g = destCell c i := by
  obtain ⟨i, -, e⟩ := tally_sum_pos _ _ _ h; exact ⟨i, e⟩
theorem owedB_pos {c : Dev nD} {t : ℕ} {g : GSem nD τ sig} {u : Unit} (h : 0 < owedB c t g u) : ∃ i : Fin 32, g = barCell (shift c i) := by
  obtain ⟨i, -, e⟩ := tally_sum_pos _ _ _ h; exact ⟨i, e⟩

theorem lv_dest (c : Dev nD) (t : Fin 32) : lv (destCell c t) () = 2 := if_pos (by simp only [rN]; omega)
theorem lv_bar (c : Dev nD) : lv (barCell c) () = 1 := rfl

/-- A wait on a cell of level at most 1 while only receive credit is owed. -/
theorem mayWait_low (c : Dev nD) (sm : SemLoc sig) (h : lv ((c : Thread nD τ), sm) () ≤ 1) (t : ℕ) :
    (levAts L lv : sProp 𝕄) ⊢ MayWait (c : Thread nD τ) sm () (owedR c t) :=
  MayOwe.of_cut (L := L) (lev := lv) 1 (fun p hp => by rw [Finset.mem_singleton.mp hp, L_tc]; exact Finset.mem_singleton_self _)
    (fun g u hg => by obtain ⟨i, rfl⟩ := owedR_pos hg; exact Finset.mem_singleton_self _)
    (fun p hp => by rw [Finset.mem_singleton.mp hp]; exact h)
    (fun g u hg => by obtain ⟨i, rfl⟩ := owedR_pos hg; rw [lv_dest]; decide)

/-- A wait on a cell of level 0 while everything of the launch is owed, or nothing. -/
theorem mayWait_stage (c : Dev nD) (q : DmaSem sig) (hq : ¬ 40 ≤ q.val) (O : CellTallies nD τ sig Unit) (hO : O = O₀ c ∨ O = 0) :
    (levAts L lv : sProp 𝕄) ⊢ MayWait (c : Thread nD τ) (.dma q) () O := by
  rcases hO with rfl | rfl
  · have hp : ∀ g u, 0 < O₀ c g u → (∃ i, g = destCell c i) ∨ ∃ i, g = barCell (shift c i) := fun g u hg => by
      unfold O₀ at hg
      rw [Pi.add_apply, Finsupp.add_apply] at hg
      rcases Nat.add_pos_iff_pos_or_pos.mp hg with h | h
      exacts [.inl (owedR_pos h), .inr (owedB_pos h)]
    refine MayOwe.of_cut (L := L) (lev := lv) 0 (fun p hp => by rw [Finset.mem_singleton.mp hp, L_tc]; exact Finset.mem_singleton_self _)
      (fun g u hg => by rcases hp g u hg with ⟨i, rfl⟩ | ⟨i, rfl⟩ <;> exact Finset.mem_singleton_self _)
      (fun p hp => by rw [Finset.mem_singleton.mp hp]; exact Nat.le_of_eq (if_neg hq))
      (fun g u hg => by
        rcases hp g u hg with ⟨i, rfl⟩ | ⟨i, rfl⟩
        · rw [lv_dest]; decide
        · rw [lv_bar]; decide)
  · rw [MayWait_zero]; iintro -; iempintro

end Cert.AllToAll

end
-- ==== Proof.Views.lean ====
/-
Facts the steps of the exchange rest on: families of resources worked through in order, which elements the kernel's
views reach, what a copy, a store and a load through them do to the contents, and how buffers fall into blocks.
-/
module

public import proofs.«01_k».proof.Proof.Sched
public import Idealize.ShloMosaic.Lib.Ring
public import Idealize.ShloMosaic.Lib.ViewIndex

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families worked through in order -/

/-- The family in which the first `t` members have become `Ψ` and the others are still `Φ`. -/
def Fam {n : ℕ} (Φ Ψ : Fin n → sProp 𝕄) (t : ℕ) : sProp 𝕄 := bigSep Finset.univ fun i : Fin n => if i.val < t then Ψ i else Φ i

theorem Fam_zero {n : ℕ} (Φ Ψ : Fin n → sProp 𝕄) : Fam Φ Ψ 0 = bigSep Finset.univ Φ :=
  bigSep_congr fun i _ => if_neg (Nat.not_lt_zero _)
theorem Fam_full {n : ℕ} (Φ Ψ : Fin n → sProp 𝕄) : Fam Φ Ψ n = bigSep Finset.univ Ψ :=
  bigSep_congr fun i _ => if_pos i.isLt

/-- One member of a family apart from the others. -/
theorem split_at {I : Type} [Fintype I] [DecidableEq I] (i : I) (Φ : I → sProp 𝕄) :
    bigSep Finset.univ Φ = iprop(Φ i ∗ bigSep (Finset.univ.erase i) Φ) := bigSep_univ_split i

/-- A member of a family. -/
theorem member {I : Type} [Fintype I] [DecidableEq I] (i : I) (Φ : I → sProp 𝕄) : bigSep Finset.univ Φ ⊢ Φ i := by
  rw [split_at i]; iintro ⟨H, -⟩; iexact H

/-- Member `i` is taken out at stage `i` and put back changed for stage `i + 1`. -/
theorem Fam_step {n : ℕ} (Φ Ψ : Fin n → sProp 𝕄) (i : Fin n) :
    Fam Φ Ψ i.val ⊢ iprop(Φ i ∗ (Ψ i -∗ Fam Φ Ψ (i.val + 1))) := by
  have h : bigSep (Finset.univ.erase i) (fun j : Fin n => if j.val < i.val then Ψ j else Φ j)
      = bigSep (Finset.univ.erase i) (fun j : Fin n => if j.val < i.val + 1 then Ψ j else Φ j) :=
    bigSep_congr fun j hj => by
      have hne : j.val ≠ i.val := fun e => Finset.ne_of_mem_erase hj (Fin.ext e)
      by_cases hl : j.val < i.val
      · rw [if_pos hl, if_pos (by omega)]
      · rw [if_neg hl, if_neg (by omega)]
  unfold Fam
  rw [split_at i, split_at i (fun j : Fin n => if j.val < i.val + 1 then Ψ j else Φ j), h,
    if_neg (Nat.lt_irrefl _), if_pos (Nat.lt_succ_self _)]
  iintro ⟨H, HR⟩
  isplitl [H]; · iexact H
  iintro H
  isplitl [H] <;> iassumption

/-- A sum over the members from `t` on, with the first of them split off. -/
theorem sum_step {A : Type} [AddCommMonoid A] {n : ℕ} (f : Fin n → A) (t : Fin n) :
    (∑ i : Fin n with t.val ≤ i.val, f i) = (∑ i : Fin n with t.val + 1 ≤ i.val, f i) + f t := by
  have h : (Finset.univ.filter fun i : Fin n => t.val ≤ i.val) = insert t (Finset.univ.filter fun i : Fin n => t.val + 1 ≤ i.val) := by
    ext i
    simp only [Finset.mem_filter, Finset.mem_univ, true_and, Finset.mem_insert]
    constructor
    · intro h
      by_cases e : i = t
      · exact .inl e
      · exact .inr (by have : i.val ≠ t.val := fun e' => e (Fin.ext e'); omega)
    · rintro (rfl | h) <;> omega
  rw [h, Finset.sum_insert (by simp), add_comm]

theorem sum_none {A : Type} [AddCommMonoid A] {n : ℕ} (f : Fin n → A) : (∑ i : Fin n with n ≤ i.val, f i) = 0 :=
  Finset.sum_eq_zero fun i hi => absurd (Finset.mem_filter.mp hi).2 (by have := i.isLt; omega)

theorem owedR_step (c : Dev nD) (t : Fin 32) : owedR c t.val = owedR c (t.val + 1) + tallyAt (destCell c t) () NB := sum_step _ t
theorem owedB_step (c : Dev nD) (t : Fin 32) : owedB c t.val = owedB c (t.val + 1) + tallyAt (barCell (shift c t)) () 1 := sum_step _ t
theorem owedR_end (c : Dev nD) : owedR c 32 = 0 := sum_none _
theorem owedB_end (c : Dev nD) : owedB c 32 = 0 := sum_none _

/-! ## The elements the views reach -/

theorem wRect_set (k : Fin 4) {o : Fin 2 → ℕ} (ho : o = ![0, 512 * k.val]) (inb : ∀ a, o a + S4096x512.size a ≤ S4096x2048.size a) :
    (Rect.unit (s := S4096x2048) o S4096x512.size inb).set = wSet k := by
  subst ho
  ext i
  have h0 : (i 0).val < 4096 := (i 0).isLt
  rw [Rect.mem_set_unit, wSet, Finset.mem_filter]
  refine ⟨fun h => ⟨Finset.mem_univ _, ?_⟩, fun h a => ?_⟩
  · have h1 : 512 * k.val ≤ (i 1).val ∧ (i 1).val < 512 * k.val + 512 := h 1
    omega
  · have h1 := h.2
    match a with
    | 0 => exact ⟨Nat.zero_le _, by show (i 0).val < 0 + 4096; omega⟩
    | 1 => show 512 * k.val ≤ (i 1).val ∧ (i 1).val < 512 * k.val + 512; omega

theorem outRect_set (d : Dev nD) {o : Fin 2 → ℕ} (ho : o = ![0, 128 * d.val]) (inb : ∀ a, o a + S64x128.size a ≤ S64x4096.size a) :
    (Rect.unit (s := S64x4096) o S64x128.size inb).set = outSet d := by
  subst ho
  ext i
  have h0 : (i 0).val < 64 := (i 0).isLt
  rw [Rect.mem_set_unit, outSet, Finset.mem_filter]
  refine ⟨fun h => ⟨Finset.mem_univ _, ?_⟩, fun h a => ?_⟩
  · have h1 : 128 * d.val ≤ (i 1).val ∧ (i 1).val < 128 * d.val + 128 := h 1
    omega
  · have h1 := h.2
    match a with
    | 0 => exact ⟨Nat.zero_le _, by show (i 0).val < 0 + 64; omega⟩
    | 1 => show 128 * d.val ≤ (i 1).val ∧ (i 1).val < 128 * d.val + 128; omega

theorem accRect_set (d : Dev nD) {o : Fin 2 → ℕ} (ho : o = ![64 * d.val, 0]) (inb : ∀ a, o a + S64x128.size a ≤ S2048x128.size a) :
    (Rect.unit (s := S2048x128) o S64x128.size inb).set = accSet d := by
  subst ho
  ext i
  have h0 : (i 1).val < 128 := (i 1).isLt
  rw [Rect.mem_set_unit, accSet, Finset.mem_filter]
  refine ⟨fun h => ⟨Finset.mem_univ _, ?_⟩, fun h a => ?_⟩
  · have h1 : 64 * d.val ≤ (i 0).val ∧ (i 0).val < 64 * d.val + 64 := h 0
    omega
  · have h1 := h.2
    match a with
    | 0 => show 64 * d.val ≤ (i 0).val ∧ (i 0).val < 64 * d.val + 64; omega
    | 1 => exact ⟨Nat.zero_le _, by show (i 1).val < 0 + 128; omega⟩

theorem chkRect_set (k : Fin 4) {o : Fin 2 → ℕ} (ho : o = ![512 * k.val, 0]) (inb : ∀ a, o a + S512x128.size a ≤ S2048x128.size a) :
    (Rect.unit (s := S2048x128) o S512x128.size inb).set = accChunk k := by
  subst ho
  ext i
  have h0 : (i 1).val < 128 := (i 1).isLt
  rw [Rect.mem_set_unit, accChunk, Finset.mem_filter]
  refine ⟨fun h => ⟨Finset.mem_univ _, ?_⟩, fun h a => ?_⟩
  · have h1 : 512 * k.val ≤ (i 0).val ∧ (i 0).val < 512 * k.val + 512 := h 0
    omega
  · have h1 := h.2
    match a with
    | 0 => show 512 * k.val ≤ (i 0).val ∧ (i 0).val < 512 * k.val + 512; omega
    | 1 => exact ⟨Nat.zero_le _, by show (i 1).val < 0 + 128; omega⟩

/-- The blocks of the buffers the copies go through, as memrefs: columns of the resident and of the read `w`, columns of
    the landing buffer, rows of the product buffer. -/
abbrev wDst (o : Fin 2 → ℕ) (inb : ∀ a, o a + S4096x512.size a ≤ S4096x2048.size a) : Memref sig .tc .vmem S4096x512 .f32 :=
  (Memref.whole cc0_scratch1).slice (Rect.unit (s := S4096x2048) o S4096x512.size inb) (fun _ => rfl)
abbrev wFrom (o : Fin 2 → ℕ) (inb : ∀ a, o a + S4096x512.size a ≤ S4096x2048.size a) : Memref sig .tc .hbm S4096x512 .f32 :=
  (Memref.whole main_arg1).slice (Rect.unit (s := S4096x2048) o S4096x512.size inb) (fun _ => rfl)
abbrev outCols (o : Fin 2 → ℕ) (inb : ∀ a, o a + S64x128.size a ≤ S64x4096.size a) : Memref sig .tc .vmem S64x128 .bf16 :=
  (Memref.whole cc0_scratch3).slice (Rect.unit (s := S64x4096) o S64x128.size inb) (fun _ => rfl)
abbrev accRows (o : Fin 2 → ℕ) (inb : ∀ a, o a + S64x128.size a ≤ S2048x128.size a) : Memref sig .tc .vmem S64x128 .bf16 :=
  (Memref.whole cc0_scratch2).slice (Rect.unit (s := S2048x128) o S64x128.size inb) (fun _ => rfl)

theorem wDst_set (k : Fin 4) {o : Fin 2 → ℕ} (ho : o = ![0, 512 * k.val]) (inb) : (wDst o inb).view.set = wSet k :=
  (View.set_slice_whole _ _).trans (wRect_set k ho inb)
theorem wFrom_set (k : Fin 4) {o : Fin 2 → ℕ} (ho : o = ![0, 512 * k.val]) (inb) : (wFrom o inb).view.set = wSet k :=
  (View.set_slice_whole _ _).trans (wRect_set k ho inb)
theorem outCols_set (d : Dev nD) {o : Fin 2 → ℕ} (ho : o = ![0, 128 * d.val]) (inb) : (outCols o inb).view.set = outSet d :=
  (View.set_slice_whole _ _).trans (outRect_set d ho inb)
theorem accRows_set (d : Dev nD) {o : Fin 2 → ℕ} (ho : o = ![64 * d.val, 0]) (inb) : (accRows o inb).view.set = accSet d :=
  (View.set_slice_whole _ _).trans (accRect_set d ho inb)

/-- A copy of the same rectangle from one buffer to another of the same type leaves the source's elements there. -/
theorem copy_w {o : Fin 2 → ℕ} (inb : ∀ a, o a + S4096x512.size a ≤ S4096x2048.size a)
    (fd : (cc0_scratch1 : Ref sig .tc).ty.Contents (Elt F)) (fs : (main_arg1 : Ref sig .tc).ty.Contents (Elt F))
    {i : S4096x2048.Idx} (hi : i ∈ (Rect.unit (s := S4096x2048) o S4096x512.size inb).set) :
    (wDst o inb).view.write (Elt F) fd ((wFrom o inb).view.read (Elt F) fs) Finset.univ i = fs i := by
  rw [← Rect.map_emb_univ] at hi
  obtain ⟨x, -, rfl⟩ := Finset.mem_map.mp hi
  exact View.write_emb_of_mem (v := (wDst o inb).view) fd _ (Finset.mem_univ x)

/-- The copy of `x` fills its buffer with it. -/
theorem copy_x (fd : (cc0_scratch0 : Ref sig .tc).ty.Contents (Elt F)) (fs : (main_arg0 : Ref sig .tc).ty.Contents (Elt F)) :
    (Memref.whole cc0_scratch0 : Memref sig .tc _ _ _).view.write (Elt F) fd
      ((Memref.whole main_arg0 : Memref sig .tc _ _ _).view.read (Elt F) fs) Finset.univ = fs :=
  funext fun i => View.write_emb_of_mem (v := (Memref.whole cc0_scratch0 : Memref sig .tc _ _ _).view) fd _ (Finset.mem_univ i)

/-- An element of the product buffer, of the landing buffer. -/
theorem accC_apply (c : Dev nD) (k : Fin 4) (y : S512x128.Idx) (i : S2048x128.Idx) (h0 : (i 0).val = 512 * k.val + (y 0).val)
    (h1 : (i 1).val = (y 1).val) : accC m c i = chunkVal m c k y := by
  have hy : (y 0).val < 512 := (y 0).isLt
  have hk : (⟨(i 0).val / 512, by have h : (i 0).val < 2048 := (i 0).isLt; omega⟩ : Fin 4) = k := Fin.ext (by show _ / _ = _; omega)
  have hx : (Shape.pair (d := ![512, 128]) ⟨(i 0).val % 512, Nat.mod_lt _ (by decide)⟩ (i 1) : S512x128.Idx) = y := by
    funext a
    match a with
    | 0 => exact Fin.ext (by show (i 0).val % 512 = (y 0).val; omega)
    | 1 => exact Fin.ext h1
  exact congrArg₂ (chunkVal m c) hk hx

theorem outC_apply (p c : Dev nD) (y : S2048x128.Idx) (i : S64x4096.Idx) (h0 : 64 * p.val + (i 0).val = (y 0).val)
    (h1 : (i 1).val = 128 * c.val + (y 1).val) : outC m p i = accC m c y := by
  have hy : (y 1).val < 128 := (y 1).isLt
  have hk : (⟨(i 1).val / 128, by have h : (i 1).val < 4096 := (i 1).isLt; show _ < 32; omega⟩ : Dev nD) = c := Fin.ext (by show _ / _ = _; omega)
  have hx : (Shape.pair (d := ![2048, 128]) ⟨64 * p.val + (i 0).val, by
        have h : (i 0).val < 64 := (i 0).isLt
        have := dev_lt p
        show _ < 2048
        omega⟩ ⟨(i 1).val % 128, Nat.mod_lt _ (by decide)⟩ : S2048x128.Idx) = y := by
    funext a
    match a with
    | 0 => exact Fin.ext h0
    | 1 => exact Fin.ext (by show (i 1).val % 128 = (y 1).val; omega)
  exact congrArg₂ (fun (d : Dev nD) (z : S2048x128.Idx) => (accC m d z : Elt F .bf16)) hk hx

/-- What lands on `p`: on the sender's columns, the landing buffer's final contents. -/
theorem copy_block (c p : Dev nD) {o6 o5 : Fin 2 → ℕ} (h6 : o6 = ![64 * p.val, 0]) (h5 : o5 = ![0, 128 * c.val])
    (inb6 : ∀ a, o6 a + S64x128.size a ≤ S2048x128.size a) (inb5 : ∀ a, o5 a + S64x128.size a ≤ S64x4096.size a)
    (fd : (cc0_scratch3 : Ref sig .tc).ty.Contents (Elt F))
    {i : S64x4096.Idx} (hi : i ∈ (Rect.unit (s := S64x4096) o5 S64x128.size inb5).set) :
    (outCols o5 inb5).view.write (Elt F) fd ((accRows o6 inb6).view.read (Elt F) (accC m c)) Finset.univ i
      = outC m p i := by
  subst h6 h5
  rw [← Rect.map_emb_univ] at hi
  obtain ⟨x, -, rfl⟩ := Finset.mem_map.mp hi
  refine (View.write_emb_of_mem (v := (outCols _ inb5).view) fd _ (Finset.mem_univ x)).trans ?_
  refine (outC_apply m p c ((Rect.unit (s := S2048x128) ![64 * p.val, 0] S64x128.size inb6).emb x) _ ?_ ?_).symm
  · rw [Rect.emb_apply, Rect.emb_apply]
    show 64 * p.val + (0 + 1 * (x 0).val) = 64 * p.val + 1 * (x 0).val
    omega
  · rw [Rect.emb_apply, Rect.emb_apply]
    show 128 * c.val + 1 * (x 1).val = 128 * c.val + (0 + 1 * (x 1).val)
    omega

/-- The store of a chunk: on its rows, the product buffer's final contents. -/
theorem store_chunk (c : Dev nD) (k : Fin 4) {o : Fin 2 → ℕ} (h : o = ![512 * k.val, 0]) (inb : ∀ a, o a + S512x128.size a ≤ S2048x128.size a)
    (f : (cc0_scratch2 : Ref sig .tc).ty.Contents (Elt F))
    {i : S2048x128.Idx} (hi : i ∈ (Rect.unit (s := S2048x128) o S512x128.size inb).set) :
    ((Memref.whole cc0_scratch2 : Memref sig .tc _ _ _).access (Rect.unit (s := S2048x128) o S512x128.size inb)).write (Elt F) f (chunkVal m c k) Finset.univ i
      = accC m c i := by
  subst h
  rw [← Rect.map_emb_univ] at hi
  obtain ⟨x, -, rfl⟩ := Finset.mem_map.mp hi
  refine (View.write_emb_of_mem (v := ((Memref.whole cc0_scratch2 : Memref sig .tc _ _ _).access (Rect.unit (s := S2048x128) _ S512x128.size inb))) f _
    (Finset.mem_univ x)).trans ?_
  refine (accC_apply m c k x _ ?_ ?_).symm
  · rw [Rect.emb_apply]
    show 512 * k.val + 1 * (x 0).val = _
    omega
  · rw [Rect.emb_apply]
    show 0 + 1 * (x 1).val = _
    omega

/-- The load of a chunk of `w`. -/
theorem load_chunk (c : Dev nD) (k : Fin 4) {o : Fin 2 → ℕ} (h : o = ![0, 512 * k.val]) (inb : ∀ a, o a + S4096x512.size a ≤ S4096x2048.size a) :
    ((Memref.whole cc0_scratch1 : Memref sig .tc _ _ _).access (Rect.unit (s := S4096x2048) o S4096x512.size inb)).read (Elt F) (wC m c) = wCol m c k := by
  subst h
  funext x
  have e : ((Rect.unit (s := S4096x2048) ![0, 512 * k.val] S4096x512.size inb).emb x)
      = (Shape.pair (d := ![4096, 2048]) (x 0) ⟨512 * k.val + (x 1).val, by
          have h : (x 1).val < 512 := (x 1).isLt
          show _ < 2048
          omega⟩ : S4096x2048.Idx) := by
    funext a
    match a with
    | 0 => exact Fin.ext (by rw [Rect.emb_apply]; show 0 + 1 * (x 0).val = (x 0).val; omega)
    | 1 => exact Fin.ext (by rw [Rect.emb_apply]; show 512 * k.val + 1 * (x 1).val = 512 * k.val + (x 1).val; omega)
  exact congrArg (wC m c) e

theorem zeros : (![0, 0] : Fin 2 → ℕ) = fun _ => 0 := funext fun a => by fin_cases a <;> rfl
theorem zero1 : (![0] : Fin 1 → ℕ) = fun _ => 0 := funext fun a => by fin_cases a; rfl

/-! ## Buffers as blocks -/

theorem w_blocks (c : Dev nD) (f : Buf (Elt F) ((c : Thread nD τ).loc cc0_scratch1)) :
    ((c : Thread nD τ).loc cc0_scratch1 ↦{fullShare} f : sProp 𝕄) = bigSep Finset.univ fun k => wPts c k f :=
  Ring.pointsTo_blocks (ℓ := (c : Thread nD τ).loc cc0_scratch1) wSet
    (fun a b h => Finset.disjoint_left.mpr fun i ha hb => h (Fin.ext ((Finset.mem_filter.mp ha).2.symm.trans (Finset.mem_filter.mp hb).2)))
    (by
      ext i
      have h : (i 1).val < 2048 := (i 1).isLt
      simp only [Finset.mem_biUnion, Finset.mem_univ, true_and, iff_true]
      exact ⟨⟨(i 1).val / 512, by omega⟩, Finset.mem_filter.mpr ⟨Finset.mem_univ _, rfl⟩⟩) f

theorem wSrc_blocks (c : Dev nD) :
    ((c : Thread nD τ).loc main_arg1 ↦{fullShare} m ((c : Thread nD τ).loc main_arg1) : sProp 𝕄) = bigSep Finset.univ fun k => wSrc m c k :=
  Ring.pointsTo_blocks (ℓ := (c : Thread nD τ).loc main_arg1) wSet
    (fun a b h => Finset.disjoint_left.mpr fun i ha hb => h (Fin.ext ((Finset.mem_filter.mp ha).2.symm.trans (Finset.mem_filter.mp hb).2)))
    (by
      ext i
      have h : (i 1).val < 2048 := (i 1).isLt
      simp only [Finset.mem_biUnion, Finset.mem_univ, true_and, iff_true]
      exact ⟨⟨(i 1).val / 512, by omega⟩, Finset.mem_filter.mpr ⟨Finset.mem_univ _, rfl⟩⟩) _

theorem out_blocks (c : Dev nD) (f : Buf (Elt F) ((c : Thread nD τ).loc cc0_scratch3)) :
    ((c : Thread nD τ).loc cc0_scratch3 ↦{fullShare} f : sProp 𝕄) = bigSep Finset.univ fun d => outPts c d f :=
  Ring.pointsTo_blocks (ℓ := (c : Thread nD τ).loc cc0_scratch3) outSet
    (fun a b h => Finset.disjoint_left.mpr fun i ha hb => h (Fin.ext ((Finset.mem_filter.mp ha).2.symm.trans (Finset.mem_filter.mp hb).2)))
    (by
      ext i
      have h : (i 1).val < 4096 := (i 1).isLt
      simp only [Finset.mem_biUnion, Finset.mem_univ, true_and, iff_true]
      exact ⟨⟨(i 1).val / 128, by show _ < 32; omega⟩, Finset.mem_filter.mpr ⟨Finset.mem_univ _, rfl⟩⟩) f

theorem acc_blocks (c : Dev nD) (f : Buf (Elt F) ((c : Thread nD τ).loc cc0_scratch2)) :
    ((c : Thread nD τ).loc cc0_scratch2 ↦{fullShare} f : sProp 𝕄) = bigSep Finset.univ fun k => chkPts c k f :=
  Ring.pointsTo_blocks (ℓ := (c : Thread nD τ).loc cc0_scratch2) accChunk
    (fun a b h => Finset.disjoint_left.mpr fun i ha hb => h (Fin.ext ((Finset.mem_filter.mp ha).2.symm.trans (Finset.mem_filter.mp hb).2)))
    (by
      ext i
      have h : (i 0).val < 2048 := (i 0).isLt
      simp only [Finset.mem_biUnion, Finset.mem_univ, true_and, iff_true]
      exact ⟨⟨(i 0).val / 512, by omega⟩, Finset.mem_filter.mpr ⟨Finset.mem_univ _, rfl⟩⟩) f

/-- All rows of the product buffer, device by device. -/
theorem acc_rows (c : Dev nD) (f : Buf (Elt F) ((c : Thread nD τ).loc cc0_scratch2)) :
    ((c : Thread nD τ).loc cc0_scratch2 ↦{fullShare} f : sProp 𝕄) = bigSep Finset.univ fun d => accPts c d f :=
  Ring.pointsTo_blocks (ℓ := (c : Thread nD τ).loc cc0_scratch2) accSet
    (fun a b h => Finset.disjoint_left.mpr fun i ha hb => h (Fin.ext ((Finset.mem_filter.mp ha).2.symm.trans (Finset.mem_filter.mp hb).2)))
    (by
      ext i
      have h : (i 0).val < 2048 := (i 0).isLt
      simp only [Finset.mem_biUnion, Finset.mem_univ, true_and, iff_true]
      exact ⟨⟨(i 0).val / 64, by show _ < 32; omega⟩, Finset.mem_filter.mpr ⟨Finset.mem_univ _, rfl⟩⟩) f

/-- The `b`-th send of chunk `j`. -/
def sendIx (j : Fin 4) (b : Fin 8) : Fin 32 := ⟨8 * j.val + b.val, by omega⟩

theorem peer_sendIx (c : Dev nD) (j : Fin 4) (b : Fin 8) : (peer c (sendIx j b)).val = 8 * (chunk c j).val + b.val := by
  have := b.isLt
  simp only [peer, sendIx, chunk]; omega

/-- The rows of the `j`-th chunk are those of the eight devices it is sent to. -/
theorem chunk_rows (c : Dev nD) (j : Fin 4) (f : Buf (Elt F) ((c : Thread nD τ).loc cc0_scratch2)) :
    (chkPts c (chunk c j) f : sProp 𝕄) = bigSep Finset.univ fun b : Fin 8 => accPts c (peer c (sendIx j b)) f :=
  Ring.pointsTo_sub_blocks (ℓ := (c : Thread nD τ).loc cc0_scratch2) (fun b : Fin 8 => accSet (peer c (sendIx j b)))
    (fun a b h => Finset.disjoint_left.mpr fun i ha hb => h (Fin.ext (by
      have h1 := (Finset.mem_filter.mp ha).2
      have h2 := (Finset.mem_filter.mp hb).2
      rw [peer_sendIx] at h1 h2
      omega))) (accChunk (chunk c j))
    (by
      ext i
      simp only [Finset.mem_biUnion, Finset.mem_univ, true_and, accSet, accChunk, Finset.mem_filter, peer_sendIx]
      constructor
      · rintro ⟨b, hb⟩; have := b.isLt; omega
      · intro h; exact ⟨⟨(i 0).val / 64 % 8, Nat.mod_lt _ (by decide)⟩, by show _ = _ + (i 0).val / 64 % 8; omega⟩) f

end Cert.AllToAll

end
-- ==== Proof.Steps.lean ====
/-
One rule per kind of effect of the kernel body: the two kinds of local copies, the signal, the barrier wait, the waits,
the transfer. Each works through a family of resources in order, so that the body is a sequence of these rules.
-/
module

public import proofs.«01_k».proof.Proof.Views

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of device `c`'s program. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use: each cell's invariant and that round 0 is reached, and the levels -/

variable (K : Dev nD × Option (Fin 69) → ℕ)

def cellRec (ck : Dev nD × Option (Fin 69)) : sProp 𝕄 := iprop(cellInv ER (sched m) (K ck) (kcell ck) ∗ reached ER (kcell ck) 0)
instance cellRec_persistent (ck) : BI.Persistent (cellRec (F := F) m K ck) := by unfold cellRec; infer_instance

/-- The levels of all cells. -/
@[irreducible] def Levs : sProp 𝕄 := levAts L lv
instance Levs_persistent : BI.Persistent (Levs (F := F)) := by unfold Levs; infer_instance

def Recs : sProp 𝕄 := iprop(Levs ∗ bigSep Finset.univ (cellRec m K))
instance Recs_persistent : BI.Persistent (Recs (F := F) m K) := by unfold Recs; infer_instance

theorem rec_at (ck : Dev nD × Option (Fin 69)) : Recs m K ⊢ iprop(cellInv ER (sched m) (K ck) (kcell ck) ∗ reached ER (kcell ck) 0) := by
  unfold Recs
  iintro ⟨-, H⟩
  ihave H' := (member ck (cellRec m K)) $$ H
  unfold cellRec
  iexact H'

theorem levels : Recs m K ⊢ Levs (F := F) := by
  unfold Recs
  iintro ⟨H, -⟩
  iexact H

/-- What is owed, the waits made so far left open. -/
def Ow (c : Dev nD) (O : CellTallies nD τ sig Unit) : sProp 𝕄 := iprop(∃ W, owes (c : Thread nD τ) O W)

/-- The one duty of an own cell, unpaid; its round, open. -/
abbrev tok (c : Dev nD) (n : Fin 69) : sProp 𝕄 := dutyTok ER (ownCell c n) 0 (0 : Dev nD)
abbrev at0 (c : Dev nD) (n : Fin 69) : sProp 𝕄 := atPos ER (ownCell c n) 0 ∅ 0
abbrev at1 (c : Dev nD) (n : Fin 69) : sProp 𝕄 := atPos ER (ownCell c n) (0 + 1) ∅ 0

theorem mem_own (c : Dev nD) (n : Fin 69) : (0 : Dev nD) ∈ (sched (F := F) m).duties (ownCell c n) 0 := by
  rw [duties_own]; exact Finset.mem_singleton_self _

/-! ## The copies -/

section Copies
variable (c : Dev nD) {α : Type} {Q : α → sProp (MT nD τ sig Unit (Elt F) ℕ UU ℕ)} {R : sProp (MT nD τ sig Unit (Elt F) ℕ UU ℕ)}

/-- The copy of `x`, before and after its start. -/
def xA : sProp 𝕄 := iprop((∃ f, xPts c f) ∗ xSrc m c ∗ tok c xN ∗ at0 c xN)
def xB : sProp 𝕄 := iprop(cred (tallyAt (ownCell c xN) () NX) ∗ at0 c xN)
def xD : sProp 𝕄 := iprop(xPts c (xC m c) ∗ xSrc m c ∗ at1 c xN)

theorem step_x {sem : DmaSem sig} (hs : (.dma sem : SemLoc sig) = osem xN)
    {p₁ p₂} {p₃} {k : PUnit → Prog (TpuEff nD τ sig (Elt F) Λ₀ .tc) α}
    (h : iprop(Recs m K ∗ xB c ∗ R) ⊢ Wp c (k ⟨⟩) Q) :
    iprop(Recs m K ∗ xA m c ∗ R) ⊢ Wp c (.op (.enqueueDma (Memref.whole main_arg0) (.here (Memref.whole cc0_scratch0)) (.dma sem) p₁ p₂ p₃) k) Q := by
  obtain rfl : sem = ⟨3, by decide⟩ := by cases hs; rfl
  unfold xA
  iintro ⟨#HR, ⟨⟨%f, Hd⟩, Hs, Ht, Hat⟩, HX⟩
  ihave Hr := (rec_at m K (c, some xN)) $$ HR
  icases Hr with ⟨HI, Hre⟩
  iapply (Rounds.wp_copy_pointsTo 𝒱₀ ER (sched m) (c : Thread nD τ) none (src := Memref.whole main_arg0) (dst := Memref.whole cc0_scratch0)
      (q := fullShare) (fs := m ((c : Thread nD τ).loc main_arg0)) (fd := f) (r := 0) (d := (0 : Dev nD)) (κ := K (c, some xN))
      (mem_own m c xN) () NX rfl (amount_own m c xN 0 0)
      (by
        rw [payload_own, ownPay_x]
        unfold xPts xSrc xC
        rw [View.set_whole, View.set_whole, copy_x])) $$ [HI Hre Hs Hd Ht]
  · isplitl [HI]; · iexact HI
    unfold xPts xSrc
    rw [View.set_whole, View.set_whole]
    isplitl [Hs]; · iexact Hs
    isplitl [Hd]; · iexact Hd
    isplitl [Ht] <;> iassumption
  iintro Hc
  iapply h
  isplitr; · iexact HR
  unfold xB
  isplitl [Hc Hat]
  · isplitl [Hc] <;> iassumption
  iexact HX

/-- The copy of the `j`-th chunk of `w`: before its start, after it, after its wait. -/
def wA (j : Fin 4) : sProp 𝕄 := iprop((∃ f, wPts c (chunk c j) f) ∗ wSrc m c (chunk c j) ∗ tok c (wN j) ∗ at0 c (wN j))
def wB (j : Fin 4) : sProp 𝕄 := iprop(cred (tallyAt (ownCell c (wN j)) () NW) ∗ at0 c (wN j))
def wD (j : Fin 4) : sProp 𝕄 := iprop(wPts c (chunk c j) (wC m c) ∗ wSrc m c (chunk c j) ∗ at1 c (wN j))

theorem wPts_eq (k : Fin 4) {o : Fin 2 → ℕ} (ho : o = ![0, 512 * k.val]) (inb) (f) :
    wPts c k f = ((wDst o inb).view.loc (c : Thread nD τ) ↦[(wDst o inb).view.set]{fullShare} f : sProp 𝕄) := by
  unfold wPts; rw [wDst_set k ho inb]
theorem wSrc_eq (k : Fin 4) {o : Fin 2 → ℕ} (ho : o = ![0, 512 * k.val]) (inb) :
    wSrc m c k = ((wFrom o inb).view.loc (c : Thread nD τ) ↦[(wFrom o inb).view.set]{fullShare} m ((c : Thread nD τ).loc main_arg1) : sProp 𝕄) := by
  unfold wSrc; rw [wFrom_set k ho inb]
theorem wLanded (k : Fin 4) {o : Fin 2 → ℕ} (ho : o = ![0, 512 * k.val]) (inb) (f) :
    ((wDst o inb).view.loc (c : Thread nD τ) ↦[(wDst o inb).view.set]{fullShare} (wDst o inb).view.write (Elt F) f
        ((wFrom o inb).view.read (Elt F) (m ((c : Thread nD τ).loc main_arg1))) Finset.univ : sProp 𝕄) = wPts c k (wC m c) := by
  rw [wPts_eq c k ho inb]
  refine pointsTo_congr fun i hi => ?_
  exact copy_w inb f _ (by rw [← View.set_slice_whole cc0_scratch1]; exact hi)

theorem step_w (j : Fin 4) {sem : DmaSem sig} (hs : (.dma sem : SemLoc sig) = osem (wN j)) {o : Fin 2 → ℕ} (ho : o = ![0, 512 * (chunk c j).val]) {inb inb'}
    {p₁ p₂} {p₃} {k : PUnit → Prog (TpuEff nD τ sig (Elt F) Λ₀ .tc) α}
    (h : iprop(Recs m K ∗ Fam (wA m c) (wB c) (j.val + 1) ∗ R) ⊢ Wp c (k ⟨⟩) Q) :
    iprop(Recs m K ∗ Fam (wA m c) (wB c) j.val ∗ R) ⊢ Wp c (.op (.enqueueDma (wFrom o inb) (.here (wDst o inb')) (.dma sem) p₁ p₂ p₃) k) Q := by
  obtain rfl : sem = ⟨(wN j).val + 3, Nat.lt_of_lt_of_le (Nat.add_lt_add_right (wN j).isLt 3) (by decide)⟩ := by cases hs; rfl
  iintro ⟨#HR, HF, HX⟩
  ihave HF := (Fam_step (wA m c) (wB c) j) $$ HF
  icases HF with ⟨HA, Hback⟩
  unfold wA
  icases HA with ⟨⟨%f, Hd⟩, Hs, Ht, Hat⟩
  ihave Hr := (rec_at m K (c, some (wN j))) $$ HR
  icases Hr with ⟨HI, Hre⟩
  iapply (Rounds.wp_copy_pointsTo 𝒱₀ ER (sched m) (c : Thread nD τ) none (src := wFrom o inb) (dst := wDst o inb')
      (q := fullShare) (fs := m ((c : Thread nD τ).loc main_arg1)) (fd := f) (r := 0) (d := (0 : Dev nD)) (κ := K (c, some (wN j)))
      (mem_own m c (wN j)) () NW rfl ((amount_own m c (wN j) 0 0).trans (ownAmt_w j))
      (by
        rw [payload_own, ownPay_w, ← wSrc_eq m c (chunk c j) ho inb]
        rw [wLanded m c (chunk c j) ho])) $$ [HI Hre Hs Hd Ht]
  · isplitl [HI]; · iexact HI
    rw [← wSrc_eq m c (chunk c j) ho inb, ← wPts_eq c (chunk c j) ho inb']
    isplitl [Hs]; · iexact Hs
    isplitl [Hd]; · iexact Hd
    isplitl [Ht] <;> iassumption
  iintro Hc
  iapply h
  isplitr; · iexact HR
  isplitl [Hc Hat Hback]
  · iapply Hback
    unfold wB
    isplitl [Hc] <;> iassumption
  iexact HX

end Copies

/-! ## The barrier -/

section Barrier
variable (c : Dev nD) {α : Type} {Q : α → sProp (MT nD τ sig Unit (Elt F) ℕ UU ℕ)} {R : sProp (MT nD τ sig Unit (Elt F) ℕ UU ℕ)}

/-- What the signal to the device `q` places on pays with: its duty's token and the lent columns. -/
def sgA (q : Fin 32) : sProp 𝕄 := if q.val = 0 then iprop(emp) else iprop(dutyTok ER (barCell (shift c q)) 0 c ∗ barPay (shift c q) c)
def sgB (_ : Fin 32) : sProp 𝕄 := iprop(emp)

/-- Before signal `q`. -/
def Sg (q : ℕ) : sProp 𝕄 := iprop(Ow c (owedR c 0 + owedB c q) ∗ Fam (sgA c) sgB q)

theorem shift_ne (q : Fin 32) (h : q.val ≠ 0) : shift c q ≠ c := fun e => h (by
  have := congrArg Fin.val e
  have := dev_lt c
  have := q.isLt
  simp only [shift] at *
  omega)

theorem step_sig (q : Fin 32) (hq : q.val ≠ 0) {n : Dev nD} (hn : n.val = (c.val + q.val) % 32)
    {k : PUnit → Prog (TpuEff nD τ sig (Elt F) Λ₀ .tc) α}
    (h : iprop(Recs m K ∗ Sg c (q.val + 1) ∗ R) ⊢ Wp c (k ⟨⟩) Q) :
    iprop(Recs m K ∗ Sg c q.val ∗ R) ⊢ Wp c (.op (.semSignal (n : Thread nD τ) barS 1) k) Q := by
  obtain rfl : n = shift c q := Fin.ext hn
  unfold Sg Ow
  iintro ⟨#HR, ⟨⟨%W, HO⟩, HF⟩, HX⟩
  ihave HF := (Fam_step (sgA c) sgB q) $$ HF
  icases HF with ⟨HA, Hback⟩
  ihave HA := (Entails.of_eq (show sgA (F := F) c q = iprop(dutyTok ER (barCell (shift c q)) 0 c ∗ barPay (shift c q) c) from if_neg hq)) $$ HA
  icases HA with ⟨Ht, Hp⟩
  ihave Hr := (rec_at m K (shift c q, none)) $$ HR
  icases Hr with ⟨HI, Hre⟩
  iapply (Rounds.wp_signal 𝒱₀ ER (sched m) (c : Thread nD τ) none (dst := (shift c q : Thread nD τ)) (κ := K (shift c q, none))
      (r := 0) (d := c) (by rw [duties_bar]; exact Finset.mem_erase.mpr ⟨(shift_ne c q hq).symm, Finset.mem_univ _⟩)
      (amount_bar m (shift c q) 0 c) () (O₀ := owedR c 0 + owedB c q.val) (owedR c 0 + owedB c (q.val + 1)) (by rw [owedB_step, add_assoc]))
    $$ [HI Hre HO Ht Hp]
  · isplitl [HI]; · iexact HI
    isplitl [HO]; · iexact HO
    isplitl [Ht]; · iexact Ht
    isplitl [Hp]; · rw [payload_bar]; iexact Hp
    iexact Hre
  iintro HO
  iapply h
  isplitr; · iexact HR
  unfold Sg Ow
  isplitr [HX]
  · isplitl [HO]; · iexists W; iexact HO
    iapply Hback
    unfold sgB; iempintro
  iexact HX

theorem may_bar : Levs (F := F) ⊢ MayWait (c : Thread nD τ) (.reg barS) () (owedR c 0) := by
  unfold Levs; exact mayWait_low c (.reg barS) (le_of_eq (lv_bar c)) 0

/-- The barrier wait, with everything sent still owed: the lent columns of every other device. -/
theorem step_bar {k : PUnit → Prog (TpuEff nD τ sig (Elt F) Λ₀ .tc) α}
    (h : iprop(Recs m K ∗ (Ow c (owedR c 0) ∗ atPos ER (barCell c) (0 + 1) ∅ 0 ∗ bigSep (Finset.univ.erase c) (fun d => barPay (F := F) c d)) ∗ R) ⊢ Wp c (k ⟨⟩) Q) :
    iprop(Recs m K ∗ (Sg c 32 ∗ cred (tallyAt (barCell c) () 31) ∗ atPos ER (barCell c) 0 ∅ 0) ∗ R)
      ⊢ Wp c (.op (.semWait barS ((31 : ℕ) : Int)) k) Q := by
  unfold Sg Ow
  iintro ⟨#HR, ⟨⟨⟨%W, HO⟩, -⟩, Hc, Hat⟩, HX⟩
  rw [owedB_end, add_zero]
  ihave Hr := (rec_at m K (c, none)) $$ HR
  icases Hr with ⟨HI, -⟩
  iapply (Rounds.wp_wait_rest_token 𝒱₀ ER (sched m) (c : Thread nD τ) none (κ := K (c, none))
      (wpE_semWait_eq 𝒱₀ (c : Thread nD τ) none Set.univ) (Set.mem_univ _) () (O := owedR c 0) (W := W) (R := 0) (m := 0) (T := ∅)
      (by rw [expect_bar])) $$ [HI Hc HO Hat]
  · isplitl [HI]; · iexact HI
    isplitl [Hc]; · iexact Hc
    isplitl [HO]; · iexact HO
    isplitr; · iapply ((levels m K).trans (may_bar c)); iexact HR
    iexact Hat
  iintro ⟨HO, Hat, -, Hpay⟩
  iapply h
  isplitr; · iexact HR
  unfold Ow
  isplitr [HX]
  · isplitl [HO]; · iexists (insert (SemLoc.reg barS, ()) W); iexact HO
    isplitl [Hat]; · iexact Hat
    iapply (Entails.of_eq (rest_bar m c)); iexact Hpay
  iexact HX

end Barrier

/-! ## The waits on own cells -/

section Waits
variable (c : Dev nD) {α : Type} {Q : α → sProp (MT nD τ sig Unit (Elt F) ℕ UU ℕ)} {R : sProp (MT nD τ sig Unit (Elt F) ℕ UU ℕ)}

/-- A wait for the amount of an own cell's duty: the round's payload. -/
theorem wait_own (n : Fin 69) {sem : DmaSem sig} (hs : (.dma sem : SemLoc sig) = osem n) (O : CellTallies nD τ sig Unit)
    (hO : Levs (F := F) ⊢ MayWait (c : Thread nD τ) (osem n) () O)
    {sp sp' : Space} {s s' : Shape} {e e' : EltTy} {src : Memref sig .tc sp' s' e'} {dst : Memref sig .tc sp s e} {p₁ p₂}
    (hN : dst.view.dmaCredit = ownAmt n.val)
    {k : PUnit → Prog (TpuEff nD τ sig (Elt F) Λ₀ .tc) α} :
    iprop(Recs m K ∗ Ow c O ∗ cred (tallyAt (ownCell c n) () (ownAmt n.val)) ∗ at0 c n)
      ⊢ iprop(((Ow c O ∗ at1 c n ∗ ownPay m c n) -∗ Wp c (k ⟨⟩) Q) -∗ Wp c (.op (.waitDma2 sem src dst p₁ p₂) k) Q) := by
  obtain rfl : sem = ⟨n.val + 3, Nat.lt_of_lt_of_le (Nat.add_lt_add_right n.isLt 3) (by decide)⟩ := by cases hs; rfl
  unfold Ow
  iintro ⟨#HR, ⟨%W, HO⟩, Hc, Hat⟩ Hk
  ihave Hr := (rec_at m K (c, some n)) $$ HR
  icases Hr with ⟨HI, -⟩
  iapply (Rounds.wp_wait_rest_token 𝒱₀ ER (sched m) (c : Thread nD τ) none (κ := K (c, some n))
      (wpE_waitDma2_eq 𝒱₀ (c : Thread nD τ) none Set.univ) (Set.mem_univ _) () (O := O) (W := W) (R := 0) (m := 0) (T := ∅)
      (by rw [Nat.zero_add, hN]; exact (expect_own m c n).symm)) $$ [HI Hc HO Hat]
  · isplitl [HI]; · iexact HI
    isplitl [Hc]; · rw [hN]; iexact Hc
    isplitl [HO]; · iexact HO
    isplitr; · iapply ((levels m K).trans hO); iexact HR
    iexact Hat
  iintro ⟨HO, Hat, -, Hpay⟩
  iapply Hk
  isplitl [HO]; · iexists (insert (osem n, ()) W); iexact HO
  isplitl [Hat]; · iexact Hat
  iapply (Entails.of_eq (rest_own m c n)); iexact Hpay

theorem may_low (n : Fin 69) (hn : n.val < 37) (t : ℕ) : Levs (F := F) ⊢ MayWait (c : Thread nD τ) (osem n) () (owedR c t) := by
  unfold Levs
  exact mayWait_low c (osem n) (by rw [show lv ((c : Thread nD τ), osem n) () = 0 from if_neg (by show ¬ 40 ≤ n.val + 3; omega)]; decide) t
theorem may_zero (n : Fin 69) : Levs (F := F) ⊢ MayWait (c : Thread nD τ) (osem n) () 0 := by
  rw [MayWait_zero]; iintro -; iempintro

theorem wait_x {sem : DmaSem sig} (hs : (.dma sem : SemLoc sig) = osem xN) {p₁ p₂} {k : PUnit → Prog (TpuEff nD τ sig (Elt F) Λ₀ .tc) α}
    (h : iprop(Recs m K ∗ (Ow c (owedR c 0) ∗ xD m c) ∗ R) ⊢ Wp c (k ⟨⟩) Q) :
    iprop(Recs m K ∗ (Ow c (owedR c 0) ∗ xB c) ∗ R)
      ⊢ Wp c (.op (.waitDma2 sem (Memref.whole main_arg0) (Memref.whole cc0_scratch0) p₁ p₂) k) Q := by
  unfold xB
  iintro ⟨#HR, ⟨HO, Hc, Hat⟩, HX⟩
  iapply (wait_own m K c xN hs (owedR c 0) (may_low c xN (by decide) 0) (ownAmt_x).symm) $$ [HO Hc Hat]
  · rw [ownAmt_x]
    isplitr; · iexact HR
    isplitl [HO]; · iexact HO
    isplitl [Hc] <;> iassumption
  rw [ownPay_x]
  iintro ⟨HO, Hat, Hx, Hs⟩
  iapply h
  isplitr; · iexact HR
  unfold xD
  isplitr [HX]
  · isplitl [HO]; · iexact HO
    isplitl [Hx]; · iexact Hx
    isplitl [Hs] <;> iassumption
  iexact HX

/-- The wait for the `j`-th chunk of `w`, the transfers from `t` on still owed. -/
theorem wait_w (j : Fin 4) (t : ℕ) {sem : DmaSem sig} (hs : (.dma sem : SemLoc sig) = osem (wN j)) {o : Fin 2 → ℕ} {inb inb'} {p₁ p₂}
    {k : PUnit → Prog (TpuEff nD τ sig (Elt F) Λ₀ .tc) α}
    (h : iprop(Recs m K ∗ (Ow c (owedR c t) ∗ Fam (wB c) (wD m c) (j.val + 1)) ∗ R) ⊢ Wp c (k ⟨⟩) Q) :
    iprop(Recs m K ∗ (Ow c (owedR c t) ∗ Fam (wB c) (wD m c) j.val) ∗ R)
      ⊢ Wp c (.op (.waitDma2 sem (wFrom o inb) (wDst o inb') p₁ p₂) k) Q := by
  iintro ⟨#HR, ⟨HO, HF⟩, HX⟩
  ihave HF := (Fam_step (wB c) (wD m c) j) $$ HF
  icases HF with ⟨HA, Hback⟩
  unfold wB
  icases HA with ⟨Hc, Hat⟩
  iapply (wait_own m K c (wN j) hs (owedR c t) (may_low c (wN j) (by simp only [wN]; omega) t) (ownAmt_w j).symm) $$ [HO Hc Hat]
  · rw [ownAmt_w]
    isplitr; · iexact HR
    isplitl [HO]; · iexact HO
    isplitl [Hc] <;> iassumption
  rw [ownPay_w]
  iintro ⟨HO, Hat, Hx, Hs⟩
  iapply h
  isplitr; · iexact HR
  isplitr [HX]
  · isplitl [HO]; · iexact HO
    iapply Hback
    unfold wD
    isplitl [Hx]; · iexact Hx
    isplitl [Hs] <;> iassumption
  iexact HX

/-- The wait for the block from the device `p` places before. -/
def rvA (p : Fin 32) : sProp 𝕄 := iprop(cred (tallyAt (ownCell c (rN p)) () NB) ∗ at0 c (rN p))
def rvB (p : Fin 32) : sProp 𝕄 := iprop(outPts c (source c p) (outC m c) ∗ at1 c (rN p))

theorem wait_recv (p : Fin 32) {sem : DmaSem sig} (hs : (.dma sem : SemLoc sig) = osem (rN p)) {o o' : Fin 2 → ℕ} {inb inb'} {p₁ p₂}
    {k : PUnit → Prog (TpuEff nD τ sig (Elt F) Λ₀ .tc) α}
    (h : iprop(Recs m K ∗ (Ow c 0 ∗ Fam (rvA c) (rvB m c) (p.val + 1)) ∗ R) ⊢ Wp c (k ⟨⟩) Q) :
    iprop(Recs m K ∗ (Ow c 0 ∗ Fam (rvA c) (rvB m c) p.val) ∗ R)
      ⊢ Wp c (.op (.waitDma2 sem (accRows o inb) (outCols o' inb') p₁ p₂) k) Q := by
  iintro ⟨#HR, ⟨HO, HF⟩, HX⟩
  ihave HF := (Fam_step (rvA c) (rvB m c) p) $$ HF
  icases HF with ⟨HA, Hback⟩
  unfold rvA
  icases HA with ⟨Hc, Hat⟩
  iapply (wait_own m K c (rN p) hs 0 (may_zero c (rN p)) (ownAmt_r p).symm) $$ [HO Hc Hat]
  · rw [ownAmt_r]
    isplitr; · iexact HR
    isplitl [HO]; · iexact HO
    isplitl [Hc] <;> iassumption
  rw [ownPay_r]
  iintro ⟨HO, Hat, Hx⟩
  iapply h
  isplitr; · iexact HR
  isplitr [HX]
  · isplitl [HO]; · iexact HO
    iapply Hback
    unfold rvB
    isplitl [Hx] <;> iassumption
  iexact HX

end Waits

/-! ## The transfers -/

section Sends
variable (c : Dev nD) {α : Type} {Q : α → sProp (MT nD τ sig Unit (Elt F) ℕ UU ℕ)} {R : sProp (MT nD τ sig Unit (Elt F) ℕ UU ℕ)}

/-- The slot of the `t`-th transfer. -/
def tslot (t : Fin 32) : Fin 32 := slot c (peer c t)

/-- What the `t`-th transfer needs besides the rows it sends, what its start leaves, what its wait leaves. -/
def sdA (t : Fin 32) : sProp 𝕄 :=
  iprop((∃ f, outPts (peer c t) c f) ∗ tok c (sN (tslot c t)) ∗ tok (peer c t) (rN (tslot c t)) ∗ at0 c (sN (tslot c t)))
def sdB (t : Fin 32) : sProp 𝕄 := iprop(cred (tallyAt (ownCell c (sN (tslot c t))) () NB) ∗ at0 c (sN (tslot c t)))
def sdD (t : Fin 32) : sProp 𝕄 := iprop(accPts c (peer c t) (accC m c) ∗ at1 c (sN (tslot c t)))

/-- The rows of chunk `j` not sent yet. -/
def rowsA (j : Fin 4) (b : Fin 8) : sProp 𝕄 := accPts c (peer c (sendIx j b)) (accC m c)
def rowsB (_ : Fin 8) : sProp 𝕄 := iprop(emp)

/-- Before transfer `b` of chunk `j`. -/
def Sd (j : Fin 4) (b : ℕ) : sProp 𝕄 :=
  iprop(Ow c (owedR c (8 * j.val + b)) ∗ Fam (sdA c) (sdB c) (8 * j.val + b) ∗ Fam (rowsA m c j) rowsB b)

theorem outPts_eq (d : Dev nD) {o : Fin 2 → ℕ} (ho : o = ![0, 128 * d.val]) (inb) (f) :
    outPts c d f = ((outCols o inb).view.loc (c : Thread nD τ) ↦[(outCols o inb).view.set]{fullShare} f : sProp 𝕄) := by
  unfold outPts; rw [outCols_set d ho inb]
theorem accPts_eq (d : Dev nD) {o : Fin 2 → ℕ} (ho : o = ![64 * d.val, 0]) (inb) (f) :
    accPts c d f = ((accRows o inb).view.loc (c : Thread nD τ) ↦[(accRows o inb).view.set]{fullShare} f : sProp 𝕄) := by
  unfold accPts; rw [accRows_set d ho inb]
theorem outLanded (p : Dev nD) {o6 o5 : Fin 2 → ℕ} (h6 : o6 = ![64 * p.val, 0]) (h5 : o5 = ![0, 128 * c.val]) (inb6 inb5) (f) :
    ((outCols o5 inb5).view.loc (p : Thread nD τ) ↦[(outCols o5 inb5).view.set]{fullShare} (outCols o5 inb5).view.write (Elt F) f
        ((accRows o6 inb6).view.read (Elt F) (accC m c)) Finset.univ : sProp 𝕄) = outPts p c (outC m p) := by
  rw [outPts_eq p c h5 inb5]
  refine pointsTo_congr fun i hi => ?_
  exact copy_block m c p h6 h5 inb6 inb5 f (by rw [← View.set_slice_whole cc0_scratch3]; exact hi)

theorem slot_sendIx (j : Fin 4) (b : Fin 8) : (tslot c (sendIx j b)).val = (8 * ((c.val % 4 + j.val) % 4) + b.val + 32 - c.val) % 32 := by
  show ((peer c (sendIx j b)).val + 32 - c.val) % 32 = _
  rw [peer_sendIx]
  rfl

theorem sem_send (s : Fin 32) {o : Fin 1 → ℕ} (h : o = ![s.val]) (inb : ∀ a, o a + S1.size a ≤ S32.size a) :
    ((((cc0_scratch6 : DmaSems sig S32).slice (Rect.unit (s := S32) o S1.size inb)).squeeze S_ squeezes_S1_S_).sem)
      = ⟨(sN s).val + 3, Nat.lt_of_lt_of_le (Nat.add_lt_add_right (sN s).isLt 3) (by decide)⟩ := by
  subst h; revert s; decide
theorem sem_recv (s : Fin 32) {o : Fin 1 → ℕ} (h : o = ![s.val]) (inb : ∀ a, o a + S1.size a ≤ S32.size a) :
    ((((cc0_scratch7 : DmaSems sig S32).slice (Rect.unit (s := S32) o S1.size inb)).squeeze S_ squeezes_S1_S_).sem)
      = ⟨(rN s).val + 3, Nat.lt_of_lt_of_le (Nat.add_lt_add_right (rN s).isLt 3) (by decide)⟩ := by
  subst h; revert s; decide

theorem step_send (j : Fin 4) (b : Fin 8) {n : Dev nD} (hn : n.val = 8 * ((c.val % 4 + j.val) % 4) + b.val)
    {o4 o4' : Fin 1 → ℕ} (h4 : o4 = ![(8 * ((c.val % 4 + j.val) % 4) + b.val + 32 - c.val) % 32]) (h4' : o4' = o4) {inb4 inb4'}
    {o6 o5 : Fin 2 → ℕ} (h6 : o6 = ![512 * ((c.val % 4 + j.val) % 4) + 64 * b.val, 0]) (h5 : o5 = ![0, 128 * c.val]) {inb6 inb5}
    {p₄} {p₁ p₂} {p₃} {k : PUnit → Prog (TpuEff nD τ sig (Elt F) Λ₀ .tc) α}
    (h : iprop(Recs m K ∗ Sd m c j (b.val + 1) ∗ R) ⊢ Wp c (k ⟨⟩) Q) :
    iprop(Recs m K ∗ Sd m c j b.val ∗ R)
      ⊢ Wp c (.op (.enqueueDma (accRows o6 inb6) (.remote (Dev.tc n) (outCols o5 inb5)
          (.dma (((cc0_scratch6 : DmaSems sig S32).slice (Rect.unit (s := S32) o4 S1.size inb4)).squeeze S_ squeezes_S1_S_).sem) p₄)
          (.dma (((cc0_scratch7 : DmaSems sig S32).slice (Rect.unit (s := S32) o4' S1.size inb4')).squeeze S_ squeezes_S1_S_).sem) p₁ p₂ p₃) k) Q := by
  subst h4'
  obtain rfl : n = peer c (sendIx j b) := Fin.ext (by rw [peer_sendIx]; exact hn)
  rw [← slot_sendIx] at h4
  have h6' : o6 = ![64 * (peer c (sendIx j b)).val, 0] := by
    rw [h6, peer_sendIx]
    exact congrArg (fun v : ℕ => (![v, 0] : Fin 2 → ℕ)) (by simp only [chunk]; omega)
  revert p₄ p₁ p₂ p₃
  rw [sem_send _ h4, sem_recv _ h4]
  intro p₄ p₁ p₂ p₃
  have hF : Fam (sdA (F := F) c) (sdB c) (8 * j.val + b.val) ⊢ iprop(sdA c (sendIx j b)
      ∗ (sdB c (sendIx j b) -∗ Fam (sdA c) (sdB c) (8 * j.val + (b.val + 1)))) := Fam_step (sdA c) (sdB c) (sendIx j b)
  unfold Sd Ow
  iintro ⟨#HR, ⟨⟨%W, HO⟩, HF, HG⟩, HX⟩
  ihave HF := hF $$ HF
  icases HF with ⟨HA, Hback⟩
  ihave HG := (Fam_step (rowsA m c j) rowsB b) $$ HG
  icases HG with ⟨Hs, Hback'⟩
  unfold sdA rowsA
  icases HA with ⟨⟨%f, Hd⟩, Hts, Htr, Hat⟩
  ihave Hr := (rec_at m K (c, some (sN (tslot c (sendIx j b))))) $$ HR
  icases Hr with ⟨HI, Hre⟩
  ihave Hr := (rec_at m K (peer c (sendIx j b), some (rN (tslot c (sendIx j b))))) $$ HR
  icases Hr with ⟨HI', Hre'⟩
  iapply (Rounds.wp_send_pointsTo 𝒱₀ ER (sched m) (c : Thread nD τ) none (c' := (peer c (sendIx j b) : Thread nD τ))
      (src := accRows o6 inb6) (dst := outCols o5 inb5)
      (κ₁ := K (c, some (sN (tslot c (sendIx j b))))) (κ₂ := K (peer c (sendIx j b), some (rN (tslot c (sendIx j b)))))
      (q := fullShare) (fs := accC m c) (fd := f) (r₁ := 0) (r₂ := 0) (d₁ := (0 : Dev nD)) (d₂ := (0 : Dev nD))
      (mem_own m c _) (mem_own m (peer c (sendIx j b)) _)
      () () NB rfl ((amount_own m c _ 0 0).trans (ownAmt_s _)) ((amount_own m (peer c (sendIx j b)) _ 0 0).trans (ownAmt_r _))
      (owedR c (8 * j.val + (b.val + 1))) (owedR_step c (sendIx j b)) (W := W)
      (by
        rw [payload_own, ownPay_s, ← accPts_eq c (peer c (sendIx j b)) h6' inb6]
        rw [show shift c (tslot c (sendIx j b)) = peer c (sendIx j b) from shift_slot _ _])
      (by
        rw [payload_own, ownPay_r, outLanded m c (peer c (sendIx j b)) h6' h5]
        first | rw [show source (peer c (sendIx j b)) (slot c (peer c (sendIx j b))) = c from source_slot _ _] | skip)) $$ [HI HI' Hre Hre' Hs Hd HO Hts Htr]
  · rw [← accPts_eq c (peer c (sendIx j b)) h6' inb6, ← outPts_eq (peer c (sendIx j b)) c h5 inb5]
    isplitl [HI]; · iexact HI
    isplitl [HI']; · iexact HI'
    isplitl [Hs]; · iexact Hs
    isplitl [Hd]; · iexact Hd
    isplitl [HO]; · iexact HO
    isplitl [Hts]; · iexact Hts
    isplitl [Hre]; · iexact Hre
    isplitl [Htr]; · iexact Htr
    iexact Hre'
  iintro ⟨Hc, HO⟩
  iapply h
  isplitr; · iexact HR
  unfold Sd Ow
  isplitr [HX]
  · isplitl [HO]; · iexists W; iexact HO
    isplitl [Hback Hc Hat]
    · iapply Hback
      unfold sdB
      isplitl [Hc] <;> iassumption
    iapply Hback'
    unfold rowsB; iempintro
  iexact HX

/-- The wait for the `t`-th transfer to have left: its rows are back. -/
theorem wait_send (j : Fin 4) (b : Fin 8) (t : ℕ) (ht : t = 8 * j.val + b.val)
    {o4 : Fin 1 → ℕ} (h4 : o4 = ![(8 * ((c.val % 4 + j.val) % 4) + b.val + 32 - c.val) % 32]) {inb4}
    {o o' : Fin 2 → ℕ} {inb inb'} {p₁ p₂} {k : PUnit → Prog (TpuEff nD τ sig (Elt F) Λ₀ .tc) α}
    (h : iprop(Recs m K ∗ (Ow c 0 ∗ Fam (sdB c) (sdD m c) (t + 1)) ∗ R) ⊢ Wp c (k ⟨⟩) Q) :
    iprop(Recs m K ∗ (Ow c 0 ∗ Fam (sdB c) (sdD m c) t) ∗ R)
      ⊢ Wp c (.op (.waitDma2 (((cc0_scratch6 : DmaSems sig S32).slice (Rect.unit (s := S32) o4 S1.size inb4)).squeeze S_ squeezes_S1_S_).sem
          (outCols o' inb') (accRows o inb) p₁ p₂) k) Q := by
  obtain rfl : t = (sendIx j b).val := ht
  rw [← slot_sendIx] at h4
  rw [sem_send _ h4]
  iintro ⟨#HR, ⟨HO, HF⟩, HX⟩
  ihave HF := (Fam_step (sdB c) (sdD m c) (sendIx j b)) $$ HF
  icases HF with ⟨HA, Hback⟩
  unfold sdB
  icases HA with ⟨Hc, Hat⟩
  iapply (wait_own m K c (sN (tslot c (sendIx j b))) rfl 0 (may_zero c _) (ownAmt_s _).symm) $$ [HO Hc Hat]
  · rw [ownAmt_s]
    isplitr; · iexact HR
    isplitl [HO]; · iexact HO
    isplitl [Hc] <;> iassumption
  rw [ownPay_s]
  iintro ⟨HO, Hat, Hx⟩
  iapply h
  isplitr; · iexact HR
  isplitr [HX]
  · isplitl [HO]; · iexact HO
    iapply Hback
    unfold sdD
    isplitl [Hx]
    · rw [show shift c (tslot c (sendIx j b)) = peer c (sendIx j b) from shift_slot _ _]; iexact Hx
    iexact Hat
  iexact HX

end Sends

end Cert.AllToAll

end
-- ==== Proof.Compute.lean ====
/-
The steps of the computation between the transfers, and how parts of the program follow one another.
-/
module

public import proofs.«01_k».proof.Proof.Steps

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sequencing -/

/-- A part of the program runs to a result satisfying `P`, then the rest. -/
theorem seq {c : Dev nD} {α β : Type} {p : Prog (TpuEff nD τ sig (Elt F) Λ₀ .tc) α} {k : α → Prog (TpuEff nD τ sig (Elt F) Λ₀ .tc) β}
    {Q : β → sProp 𝕄} {S S' : sProp 𝕄} (P : α → Prop) (h₁ : S ⊢ Wp c p (fun r => iprop(⌜P r⌝ ∗ S'))) (h₂ : ∀ r, P r → (S' ⊢ Wp c (k r) Q)) :
    S ⊢ Wp c (p >>= k) Q := by
  unfold Wp at *
  rw [wp_bind]
  refine h₁.trans (wp_mono _ _ _ fun r => ?_)
  iintro ⟨%hr, H⟩
  iapply (h₂ r hr); iexact H

/-- The end of a part. -/
theorem done {c : Dev nD} {α : Type} {S : sProp 𝕄} {P : α → Prop} {a : α} (h : P a) :
    S ⊢ Wp c (.ret a) (fun r => iprop(⌜P r⌝ ∗ S)) := by
  unfold Wp
  rw [wp_ret]
  iintro H
  imodintro
  isplitr; · ipureintro; exact h
  iexact H

/-- The last done member of a family, for a look. -/
theorem Fam_peek {n : ℕ} (Φ Ψ : Fin n → sProp 𝕄) (i : Fin n) :
    Fam Φ Ψ (i.val + 1) ⊢ iprop(Ψ i ∗ (Ψ i -∗ Fam Φ Ψ (i.val + 1))) := by
  unfold Fam
  rw [split_at i, if_pos (Nat.lt_succ_self _)]
  iintro ⟨H, HR⟩
  isplitl [H]; · iexact H
  iintro H
  isplitl [H] <;> iassumption

/-! ## The scales -/

section Compute
variable (K : Dev nD × Option (Fin 69) → ℕ)
variable (c : Dev nD) {α : Type} {Q : α → sProp (MT nD τ sig Unit (Elt F) ℕ UU ℕ)} {R : sProp (MT nD τ sig Unit (Elt F) ℕ UU ℕ)}

/-- The staged scales. -/
def scPts : sProp 𝕄 := iprop(((c : Thread nD τ).loc cc0_stg0_0 ↦{fullShare} stg0 m c) ∗ ((c : Thread nD τ).loc cc0_stg1_0 ↦{fullShare} stg1 m c))

theorem one_index (x : S1.Idx) : x = i0 := funext fun a => Fin.ext (by
  obtain rfl : a = 0 := Subsingleton.elim _ _
  have h : (x 0).val < 1 := (x 0).isLt
  show (x 0).val = 0
  omega)

theorem step_scale0 {inb : ∀ a, (![0] : Fin 1 → ℕ) a + S1.size a ≤ S1.size a} {hl} {k : (S1.Idx → Elt F .f32) → Prog (TpuEff nD τ sig (Elt F) Λ₀ .tc) α}
    (h : iprop(Recs m K ∗ scPts m c ∗ R) ⊢ Wp c (k (fun _ => stg0 m c i0)) Q) :
    iprop(Recs m K ∗ scPts m c ∗ R) ⊢ Wp c (.op (.load (Memref.whole cc0_stg0_0) (Rect.unit (s := S1) ![0] S1.size inb).toLoadRect hl) k) Q := by
  have hc : stg0 m c = (fun _ => stg0 m c i0) := funext fun x => by rw [one_index x]
  replace h : iprop(Recs m K ∗ scPts m c ∗ R) ⊢ Wp c (k (stg0 m c)) Q := by rw [hc]; exact h
  have e : (Memref.whole cc0_stg0_0 : Memref sig .tc _ _ _).view.readAt (Elt F) (Rect.unit (s := S1) ![0] S1.size inb).toLoadRect (stg0 m c) = stg0 m c :=
    Memref.readAt_unit_zero (Elt F) cc0_stg0_0 zero1 _ _
  unfold scPts at *
  iintro ⟨HR, ⟨H0, H1⟩, HX⟩
  iapply (wp_load 𝒱₀ (c : Thread nD τ) none Set.univ (m := Memref.whole cc0_stg0_0) (Finset.subset_univ _)) $$ H0; iintro H0
  rw [e]
  iapply h
  isplitl [HR]; · iexact HR
  isplitr [HX]
  · isplitl [H0] <;> iassumption
  iexact HX

theorem step_scale1 {inb : ∀ a, (![0] : Fin 1 → ℕ) a + S1.size a ≤ S1.size a} {hl} {k : (S1.Idx → Elt F .f32) → Prog (TpuEff nD τ sig (Elt F) Λ₀ .tc) α}
    (h : iprop(Recs m K ∗ scPts m c ∗ R) ⊢ Wp c (k (fun _ => stg1 m c i0)) Q) :
    iprop(Recs m K ∗ scPts m c ∗ R) ⊢ Wp c (.op (.load (Memref.whole cc0_stg1_0) (Rect.unit (s := S1) ![0] S1.size inb).toLoadRect hl) k) Q := by
  have hc : stg1 m c = (fun _ => stg1 m c i0) := funext fun x => by rw [one_index x]
  replace h : iprop(Recs m K ∗ scPts m c ∗ R) ⊢ Wp c (k (stg1 m c)) Q := by rw [hc]; exact h
  have e : (Memref.whole cc0_stg1_0 : Memref sig .tc _ _ _).view.readAt (Elt F) (Rect.unit (s := S1) ![0] S1.size inb).toLoadRect (stg1 m c) = stg1 m c :=
    Memref.readAt_unit_zero (Elt F) cc0_stg1_0 zero1 _ _
  unfold scPts at *
  iintro ⟨HR, ⟨H0, H1⟩, HX⟩
  iapply (wp_load 𝒱₀ (c : Thread nD τ) none Set.univ (m := Memref.whole cc0_stg1_0) (Finset.subset_univ _)) $$ H1; iintro H1
  rw [e]
  iapply h
  isplitl [HR]; · iexact HR
  isplitr [HX]
  · isplitl [H0] <;> iassumption
  iexact HX

/-! ## A chunk: its wait, the loads, the store -/

/-- The rows of the `j`-th chunk before its store. -/
def chkA (j : Fin 4) : sProp 𝕄 := iprop(∃ f, chkPts c (chunk c j) f)
def chkB (_ : Fin 4) : sProp 𝕄 := iprop(emp)

/-- Between the transfers: what is owed and the transfers' resources. -/
def Sn (t : ℕ) : sProp 𝕄 := iprop(Ow c (owedR c t) ∗ Fam (sdA c) (sdB c) t)
/-- What chunks from `j` on need: before the wait of chunk `j`, and after it. -/
def Side (j : ℕ) : sProp 𝕄 := iprop(Fam (wB c) (wD m c) j ∗ Fam (chkA c) chkB j ∗ xPts c (xC m c))
def Rd (j : Fin 4) : sProp 𝕄 := iprop(Fam (wB c) (wD m c) (j.val + 1) ∗ Fam (chkA c) chkB j.val ∗ xPts c (xC m c))

theorem step_chunk (j : Fin 4) (t : ℕ) {sem : DmaSem sig} (hs : (.dma sem : SemLoc sig) = osem (wN j)) {o : Fin 2 → ℕ} {inb inb'} {p₁ p₂}
    {k : PUnit → Prog (TpuEff nD τ sig (Elt F) Λ₀ .tc) α}
    (h : iprop(Recs m K ∗ Sn c t ∗ Rd m c j ∗ R) ⊢ Wp c (k ⟨⟩) Q) :
    iprop(Recs m K ∗ Sn c t ∗ Side m c j.val ∗ R) ⊢ Wp c (.op (.waitDma2 sem (wFrom o inb) (wDst o inb') p₁ p₂) k) Q := by
  refine BIBase.Entails.trans ?_ (wait_w m K c j t hs (R := iprop(Fam (sdA c) (sdB c) t ∗ Fam (chkA c) chkB j.val ∗ xPts c (xC m c) ∗ R))
    (BIBase.Entails.trans ?_ h))
  · unfold Sn Side
    iintro ⟨HR, ⟨HO, HS⟩, ⟨HW, HC, HX⟩, H⟩
    isplitl [HR]; · iexact HR
    isplitl [HO HW]; · isplitl [HO] <;> iassumption
    isplitl [HS]; · iexact HS
    isplitl [HC]; · iexact HC
    isplitl [HX] <;> iassumption
  · unfold Sn Rd
    iintro ⟨HR, ⟨HO, HW⟩, HS, HC, HX, H⟩
    isplitl [HR]; · iexact HR
    isplitl [HO HS]; · isplitl [HO] <;> iassumption
    isplitr [H]
    · isplitl [HW]; · iexact HW
      isplitl [HC] <;> iassumption
    iexact H

theorem step_load_x (j : Fin 4) (t : ℕ) {inb : ∀ a, (![0, 0] : Fin 2 → ℕ) a + S128x4096.size a ≤ S128x4096.size a} {hl}
    {k : Vec F S128x4096 .f32 → Prog (TpuEff nD τ sig (Elt F) Λ₀ .tc) α}
    (h : iprop(Recs m K ∗ Sn c t ∗ Rd m c j ∗ R) ⊢ Wp c (k (xC m c)) Q) :
    iprop(Recs m K ∗ Sn c t ∗ Rd m c j ∗ R)
      ⊢ Wp c (.op (.load (Memref.whole cc0_scratch0) (Rect.unit (s := S128x4096) ![0, 0] S128x4096.size inb).toLoadRect hl) k) Q := by
  have e : (Memref.whole cc0_scratch0 : Memref sig .tc _ _ _).view.readAt (Elt F) (Rect.unit (s := S128x4096) ![0, 0] S128x4096.size inb).toLoadRect (xC m c) = xC m c :=
    Memref.readAt_unit_zero (Elt F) cc0_scratch0 zeros _ _
  unfold Rd xPts at *
  iintro ⟨HR, HS, ⟨HW, HC, HX⟩, H⟩
  iapply (wp_load 𝒱₀ (c : Thread nD τ) none Set.univ (m := Memref.whole cc0_scratch0) (Finset.subset_univ _)) $$ HX; iintro HX
  rw [e]
  iapply h
  isplitl [HR]; · iexact HR
  isplitl [HS]; · iexact HS
  isplitr [H]
  · isplitl [HW]; · iexact HW
    isplitl [HC] <;> iassumption
  iexact H

theorem step_load_w (j : Fin 4) (t : ℕ) {o : Fin 2 → ℕ} (ho : o = ![0, 512 * (chunk c j).val]) {inb : ∀ a, o a + S4096x512.size a ≤ S4096x2048.size a} {hl}
    {k : Vec F S4096x512 .f32 → Prog (TpuEff nD τ sig (Elt F) Λ₀ .tc) α}
    (h : iprop(Recs m K ∗ Sn c t ∗ Rd m c j ∗ R) ⊢ Wp c (k (wCol m c (chunk c j))) Q) :
    iprop(Recs m K ∗ Sn c t ∗ Rd m c j ∗ R)
      ⊢ Wp c (.op (.load (Memref.whole cc0_scratch1) (Rect.unit (s := S4096x2048) o S4096x512.size inb).toLoadRect hl) k) Q := by
  have e := load_chunk m c (chunk c j) ho inb
  have hS : ((Memref.whole cc0_scratch1 : Memref sig .tc _ _ _).access (Rect.unit (s := S4096x2048) o S4096x512.size inb)).set ⊆ wSet (chunk c j) :=
    le_of_eq ((View.set_slice_whole _ _).trans (wRect_set _ ho inb))
  unfold Rd at *
  iintro ⟨HR, HS, ⟨HW, HC, HX⟩, H⟩
  ihave HW := (Fam_peek (wB c) (wD m c) j) $$ HW
  icases HW with ⟨HD, Hback⟩
  unfold wD wPts
  icases HD with ⟨Hw, HD⟩
  iapply (wp_load_rect 𝒱₀ (c : Thread nD τ) none Set.univ (m := Memref.whole cc0_scratch1) hS) $$ Hw; iintro Hw
  rw [e]
  iapply h
  isplitl [HR]; · iexact HR
  isplitl [HS]; · iexact HS
  isplitr [H]
  · isplitl [Hback Hw HD]
    · iapply Hback
      isplitl [Hw] <;> iassumption
    isplitl [HC] <;> iassumption
  iexact H

theorem chk_access (k : Fin 4) {o : Fin 2 → ℕ} (ho : o = ![512 * k.val, 0]) (inb : ∀ a, o a + S512x128.size a ≤ S2048x128.size a) :
    ((Memref.whole cc0_scratch2 : Memref sig .tc _ _ _).access (Rect.unit (s := S2048x128) o S512x128.size inb)).set = accChunk k :=
  (View.set_slice_whole _ _).trans (chkRect_set _ ho inb)

/-- The read of the rows about to be stored, its result unused. -/
theorem step_dead (j : Fin 4) (t : ℕ) {o : Fin 2 → ℕ} (ho : o = ![512 * (chunk c j).val, 0]) {inb : ∀ a, o a + S512x128.size a ≤ S2048x128.size a} {hl}
    {k : Vec F S512x128 .bf16 → Prog (TpuEff nD τ sig (Elt F) Λ₀ .tc) α}
    (h : ∀ v, iprop(Recs m K ∗ Sn c t ∗ Rd m c j ∗ R) ⊢ Wp c (k v) Q) :
    iprop(Recs m K ∗ Sn c t ∗ Rd m c j ∗ R)
      ⊢ Wp c (.op (.load (Memref.whole cc0_scratch2) (Rect.unit (s := S2048x128) o S512x128.size inb).toLoadRect hl) k) Q := by
  have hS := le_of_eq (chk_access (chunk c j) ho inb)
  have hF : Fam (chkA (F := F) c) chkB j.val ⊢ iprop(chkA c j ∗ (chkA c j -∗ Fam (chkA c) chkB j.val)) := by
    unfold Fam
    rw [split_at j, if_neg (Nat.lt_irrefl _)]
    iintro ⟨H, HR⟩
    isplitl [H]; · iexact H
    iintro H
    isplitl [H] <;> iassumption
  unfold Rd at *
  iintro ⟨HR, HS, ⟨HW, HC, HX⟩, H⟩
  ihave HC := hF $$ HC
  icases HC with ⟨HD, Hback⟩
  unfold chkA chkPts
  icases HD with ⟨%f, Hf⟩
  iapply (wp_load_rect 𝒱₀ (c : Thread nD τ) none Set.univ (m := Memref.whole cc0_scratch2) hS) $$ Hf; iintro Hf
  iapply (h _)
  isplitl [HR]; · iexact HR
  isplitl [HS]; · iexact HS
  isplitr [H]
  · isplitl [HW]; · iexact HW
    isplitl [Hback Hf]
    · iapply Hback
      iexists f; iexact Hf
    iexact HX
  iexact H

/-- The store of the `j`-th chunk: its rows, ready to be sent. -/
theorem step_store (j : Fin 4) {o : Fin 2 → ℕ} (ho : o = ![512 * (chunk c j).val, 0]) {inb : ∀ a, o a + S512x128.size a ≤ S2048x128.size a}
    {w : FVec F S512x128 .bf16} (hw : w = chunkVal m c (chunk c j)) {p₁ p₂}
    {k : PUnit → Prog (TpuEff nD τ sig (Elt F) Λ₀ .tc) α}
    (h : iprop(Recs m K ∗ Sd m c j 0 ∗ Side m c (j.val + 1) ∗ R) ⊢ Wp c (k ⟨⟩) Q) :
    iprop(Recs m K ∗ Sn c (8 * j.val) ∗ Rd m c j ∗ R)
      ⊢ Wp c (.op (.store (Memref.whole cc0_scratch2) (Rect.unit (s := S2048x128) o S512x128.size inb) w Finset.univ p₁ p₂) k) Q := by
  subst hw
  have hS : ((Memref.whole cc0_scratch2 : Memref sig .tc _ _ _).access (Rect.unit (s := S2048x128) o S512x128.size inb)).setOn Finset.univ ⊆ accChunk (chunk c j) :=
    le_of_eq (chk_access (chunk c j) ho inb)
  have hst (f) : ((c : Thread nD τ).loc cc0_scratch2 ↦[accChunk (chunk c j)]{fullShare}
      ((Memref.whole cc0_scratch2 : Memref sig .tc _ _ _).access (Rect.unit (s := S2048x128) o S512x128.size inb)).write (Elt F) f (chunkVal m c (chunk c j)) Finset.univ : sProp 𝕄)
      = Fam (rowsA m c j) rowsB 0 := by
    rw [Fam_zero]
    refine Eq.trans (pointsTo_congr fun i hi => ?_) (chunk_rows c j (accC m c))
    exact store_chunk m c (chunk c j) ho inb f (by rw [chkRect_set _ ho]; exact hi)
  unfold Sn Rd Side Sd at *
  iintro ⟨HR, ⟨HO, HS⟩, ⟨HW, HC, HX⟩, H⟩
  ihave HC := (Fam_step (chkA c) chkB j) $$ HC
  icases HC with ⟨HD, Hback⟩
  unfold chkA chkPts
  icases HD with ⟨%f, Hf⟩
  iapply (wp_store 𝒱₀ (c : Thread nD τ) none Set.univ (m := Memref.whole cc0_scratch2) (Mk := Finset.univ) hS) $$ Hf; iintro Hf
  ihave Hf := (Entails.of_eq (hst f)) $$ Hf
  iapply h
  isplitl [HR]; · iexact HR
  isplitl [HO HS Hf]
  · isplitl [HO]; · iexact HO
    isplitl [HS]; · iexact HS
    iexact Hf
  isplitr [H]
  · isplitl [HW]; · iexact HW
    isplitl [Hback]
    · iapply Hback
      unfold chkB; iempintro
    iexact HX
  iexact H

/-- All transfers of a chunk started. -/
theorem sent (j : Fin 4) : iprop(Recs m K ∗ Sd m c j 8 ∗ R) ⊢ iprop(Recs m K ∗ Sn c (8 * (j.val + 1)) ∗ R) := by
  unfold Sd Sn
  iintro ⟨HR, ⟨HO, HF, -⟩, H⟩
  isplitl [HR]; · iexact HR
  isplitl [HO HF]
  · isplitl [HO] <;> iassumption
  iexact H

/-! ## The result -/

theorem step_load_out {inb : ∀ a, (![0, 0] : Fin 2 → ℕ) a + S64x4096.size a ≤ S64x4096.size a} {hl}
    {k : Vec F S64x4096 .bf16 → Prog (TpuEff nD τ sig (Elt F) Λ₀ .tc) α}
    (h : iprop(Recs m K ∗ ((c : Thread nD τ).loc cc0_scratch3 ↦{fullShare} outC m c) ∗ R) ⊢ Wp c (k (outC m c)) Q) :
    iprop(Recs m K ∗ ((c : Thread nD τ).loc cc0_scratch3 ↦{fullShare} outC m c) ∗ R)
      ⊢ Wp c (.op (.load (Memref.whole cc0_scratch3) (Rect.unit (s := S64x4096) ![0, 0] S64x4096.size inb).toLoadRect hl) k) Q := by
  have e : (Memref.whole cc0_scratch3 : Memref sig .tc _ _ _).view.readAt (Elt F) (Rect.unit (s := S64x4096) ![0, 0] S64x4096.size inb).toLoadRect (outC m c) = outC m c :=
    Memref.readAt_unit_zero (Elt F) cc0_scratch3 zeros _ _
  iintro ⟨HR, HX, H⟩
  iapply (wp_load 𝒱₀ (c : Thread nD τ) none Set.univ (m := Memref.whole cc0_scratch3) (Finset.subset_univ _)) $$ HX; iintro HX
  rw [e]
  iapply h
  isplitl [HR]; · iexact HR
  isplitl [HX] <;> iassumption

/-- The result's staging buffer, whatever it holds. -/
def resA : sProp 𝕄 := iprop(∃ g, (c : Thread nD τ).loc cc0_stg2_0 ↦{fullShare} g)

theorem step_dead_out {inb : ∀ a, (![0, 0] : Fin 2 → ℕ) a + S4096x64.size a ≤ S4096x64.size a} {hl}
    {k : Vec F S4096x64 .f32 → Prog (TpuEff nD τ sig (Elt F) Λ₀ .tc) α}
    (h : ∀ v, iprop(Recs m K ∗ resA c ∗ R) ⊢ Wp c (k v) Q) :
    iprop(Recs m K ∗ resA c ∗ R)
      ⊢ Wp c (.op (.load (Memref.whole cc0_stg2_0) (Rect.unit (s := S4096x64) ![0, 0] S4096x64.size inb).toLoadRect hl) k) Q := by
  unfold resA at *
  iintro ⟨HR, ⟨%g, HX⟩, H⟩
  iapply (wp_load 𝒱₀ (c : Thread nD τ) none Set.univ (m := Memref.whole cc0_stg2_0) (Finset.subset_univ _)) $$ HX; iintro HX
  iapply (h _)
  isplitl [HR]; · iexact HR
  isplitl [HX]; · iexists g; iexact HX
  iexact H

theorem step_store_out {inb : ∀ a, (![0, 0] : Fin 2 → ℕ) a + S4096x64.size a ≤ S4096x64.size a} {p₁ p₂}
    {k : PUnit → Prog (TpuEff nD τ sig (Elt F) Λ₀ .tc) α}
    (h : iprop(Recs m K ∗ ((c : Thread nD τ).loc cc0_stg2_0 ↦{fullShare} resC m c) ∗ R) ⊢ Wp c (k ⟨⟩) Q) :
    iprop(Recs m K ∗ resA c ∗ R)
      ⊢ Wp c (.op (.store (Memref.whole cc0_stg2_0) (Rect.unit (s := S4096x64) ![0, 0] S4096x64.size inb) (k0_pay10 (outC m c)) Finset.univ p₁ p₂) k) Q := by
  have e (g) : ((Memref.whole cc0_stg2_0 : Memref sig .tc _ _ _).access (Rect.unit (s := S4096x64) ![0, 0] S4096x64.size inb)).write (Elt F) g (k0_pay10 (outC m c)) Finset.univ
      = resC m c := Memref.write_access_unit_zero_univ (Elt F) cc0_stg2_0 zeros _ _ _
  unfold resA
  iintro ⟨HR, ⟨%g, HX⟩, H⟩
  iapply (wp_store 𝒱₀ (c : Thread nD τ) none Set.univ (m := Memref.whole cc0_stg2_0)
    (r := Rect.unit (s := S4096x64) ![0, 0] S4096x64.size inb) (Mk := Finset.univ) (Finset.subset_univ _)) $$ HX; iintro HX
  rw [e]
  iapply h
  isplitl [HR]; · iexact HR
  isplitl [HX] <;> iassumption

end Compute

end Cert.AllToAll

end
-- ==== Proof.States.lean ====
/-
The states between the phases of the body, how each becomes the next, and the end, where every cell is closed.
-/
module

public import proofs.«01_k».proof.Proof.Compute

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The states between the phases -/

section States
variable (K : Dev nD × Option (Fin 69) → ℕ) (c : Dev nD)

/-- What a transfer needs of its own: its two duties and the sender's position. -/
def sdT (t : Fin 32) : sProp 𝕄 := iprop(tok c (sN (tslot c t)) ∗ tok (peer c t) (rN (tslot c t)) ∗ at0 c (sN (tslot c t)))

/-- The barrier cell's round, open and closed; the landing buffer and the result, final. -/
abbrev bar0 : sProp 𝕄 := atPos ER (barCell c) 0 ∅ 0
abbrev bar1 : sProp 𝕄 := atPos ER (barCell c) (0 + 1) ∅ 0
abbrev lentAll : sProp 𝕄 := bigSep (Finset.univ.erase c) (fun d => barPay (F := F) c d)
abbrev outFull : sProp 𝕄 := (c : Thread nD τ).loc cc0_scratch3 ↦{fullShare} outC m c
abbrev resFull : sProp 𝕄 := (c : Thread nD τ).loc cc0_stg2_0 ↦{fullShare} resC m c

/-- Beside the copies and the signals at the start: what the later phases need. -/
def later : sProp 𝕄 := iprop(scPts m c ∗ resA c ∗ (∃ f, outPts c c f) ∗ bigSep Finset.univ (sdT c) ∗ bigSep Finset.univ (rvA c) ∗ bigSep Finset.univ (chkA c))
/-- What the body starts from. -/
def bodyIn : sProp 𝕄 :=
  iprop(xA m c ∗ Fam (wA m c) (wB c) 0 ∗ Sg c 1 ∗ (cred (tallyAt (barCell c) () 31) ∗ bar0 c) ∗ later m c)

/-- Set aside while the chunks are computed, while the blocks arrive. -/
def aside : sProp 𝕄 := iprop(xSrc m c ∗ at1 c xN ∗ bar1 c ∗ resA c ∗ bigSep Finset.univ (rvA c))
def aside' : sProp 𝕄 := iprop(bigSep Finset.univ (wD m c) ∗ xPts c (xC m c) ∗ scPts m c ∗ xSrc m c ∗ at1 c xN ∗ bar1 c)
/-- The receive cells' positions after their rounds. -/
def rvAt : sProp 𝕄 := bigSep Finset.univ fun p => at1 c (rN p)

theorem to_w : iprop(Recs m K ∗ xB c ∗ Fam (wA m c) (wB c) 0 ∗ Sg c 1 ∗ (cred (tallyAt (barCell c) () 31) ∗ bar0 c) ∗ later m c)
    ⊢ iprop(Recs m K ∗ Fam (wA m c) (wB c) 0 ∗ xB c ∗ Sg c 1 ∗ (cred (tallyAt (barCell c) () 31) ∗ bar0 c) ∗ later m c) := by
  iintro ⟨HR, HX, HW, H⟩
  isplitl [HR]; · iexact HR
  isplitl [HW]; · iexact HW
  isplitl [HX] <;> iassumption

theorem to_signals : iprop(Recs m K ∗ Fam (wA m c) (wB c) 4 ∗ xB c ∗ Sg c 1 ∗ (cred (tallyAt (barCell c) () 31) ∗ bar0 c) ∗ later m c)
    ⊢ iprop(Recs m K ∗ Sg c 1 ∗ Fam (wB c) (wD m c) 0 ∗ xB c ∗ (cred (tallyAt (barCell c) () 31) ∗ bar0 c) ∗ later m c) := by
  rw [Fam_full, Fam_zero]
  iintro ⟨HR, HW, HX, HS, H⟩
  isplitl [HR]; · iexact HR
  isplitl [HS]; · iexact HS
  isplitl [HW]; · iexact HW
  isplitl [HX] <;> iassumption

theorem to_barrier : iprop(Recs m K ∗ Sg c 32 ∗ Fam (wB c) (wD m c) 0 ∗ xB c ∗ (cred (tallyAt (barCell c) () 31) ∗ bar0 c) ∗ later m c)
    ⊢ iprop(Recs m K ∗ (Sg c 32 ∗ cred (tallyAt (barCell c) () 31) ∗ bar0 c) ∗ Fam (wB c) (wD m c) 0 ∗ xB c ∗ later m c) := by
  iintro ⟨HR, HS, HW, HX, HB, H⟩
  isplitl [HR]; · iexact HR
  isplitl [HS HB]; · isplitl [HS] <;> iassumption
  isplitl [HW]; · iexact HW
  isplitl [HX] <;> iassumption

theorem to_wait_x : iprop(Recs m K ∗ (Ow c (owedR c 0) ∗ bar1 c ∗ lentAll c) ∗ Fam (wB c) (wD m c) 0 ∗ xB c ∗ later m c)
    ⊢ iprop(Recs m K ∗ (Ow c (owedR c 0) ∗ xB c) ∗ bar1 c ∗ lentAll c ∗ Fam (wB c) (wD m c) 0 ∗ later m c) := by
  iintro ⟨HR, ⟨HO, HB, HL⟩, HW, HX, H⟩
  isplitl [HR]; · iexact HR
  isplitl [HO HX]; · isplitl [HO] <;> iassumption
  isplitl [HB]; · iexact HB
  isplitl [HL]; · iexact HL
  isplitl [HW] <;> iassumption

/-- With the lent columns of every device (its own columns of its own buffer among them) the transfers may start. -/
theorem lent : iprop(lentAll c ∗ (∃ f, outPts c c f) ∗ bigSep Finset.univ (sdT (F := F) c)) ⊢ Fam (sdA c) (sdB c) 0 := by
  have h : bigSep Finset.univ (sdA (F := F) c) = iprop(bigSep Finset.univ (fun d => barPay (F := F) c d) ∗ bigSep Finset.univ (sdT c)) := by
    rw [bigSep_univ_equiv (sends c) (fun d => barPay (F := F) c d), ← bigSep_sep']
    rfl
  rw [Fam_zero, h, split_at c (fun d => barPay (F := F) c d)]
  unfold barPay
  iintro ⟨HL, Ho, HT⟩
  isplitr [HT]
  · isplitl [Ho]; · iexact Ho
    iexact HL
  iexact HT

theorem to_scales : iprop(Recs m K ∗ (Ow c (owedR c 0) ∗ xD m c) ∗ bar1 c ∗ lentAll c ∗ Fam (wB c) (wD m c) 0 ∗ later m c)
    ⊢ iprop(Recs m K ∗ scPts m c ∗ Sn c 0 ∗ Side m c 0 ∗ aside m c) := by
  unfold xD later Sn Side aside
  rw [Fam_zero (chkA c)]
  iintro ⟨HR, ⟨HO, Hx, Hs, Hat⟩, HB, HL, HW, Hsc, Hres, Ho, HT, Hrv, Hck⟩
  isplitl [HR]; · iexact HR
  isplitl [Hsc]; · iexact Hsc
  isplitl [HO HL Ho HT]
  · isplitl [HO]; · iexact HO
    iapply (lent c)
    isplitl [HL]; · iexact HL
    isplitl [Ho] <;> iassumption
  isplitl [HW Hck Hx]
  · isplitl [HW]; · iexact HW
    isplitl [Hck] <;> iassumption
  isplitl [Hs]; · iexact Hs
  isplitl [Hat]; · iexact Hat
  isplitl [HB]; · iexact HB
  isplitl [Hres] <;> iassumption

theorem to_chunks : iprop(Recs m K ∗ scPts m c ∗ Sn c 0 ∗ Side m c 0 ∗ aside m c)
    ⊢ iprop(Recs m K ∗ Sn c 0 ∗ Side m c 0 ∗ scPts m c ∗ aside m c) := by
  iintro ⟨HR, HS, HN, HD, H⟩
  isplitl [HR]; · iexact HR
  isplitl [HN]; · iexact HN
  isplitl [HD]; · iexact HD
  isplitl [HS] <;> iassumption

theorem to_recvs : iprop(Recs m K ∗ Sn c 32 ∗ Side m c 4 ∗ scPts m c ∗ aside m c)
    ⊢ iprop(Recs m K ∗ (Ow c 0 ∗ Fam (rvA c) (rvB m c) 0) ∗ Fam (sdB c) (sdD m c) 0 ∗ resA c ∗ aside' m c) := by
  unfold Sn Side aside aside'
  rw [Fam_zero (rvA c), Fam_zero (sdB c), Fam_full (wB c), Fam_full (sdA c), owedR_end]
  iintro ⟨HR, ⟨HO, HS⟩, ⟨HW, -, HX⟩, Hsc, Hs, Hat, HB, Hres, Hrv⟩
  isplitl [HR]; · iexact HR
  isplitl [HO Hrv]; · isplitl [HO] <;> iassumption
  isplitl [HS]; · iexact HS
  isplitl [Hres]; · iexact Hres
  isplitl [HW]; · iexact HW
  isplitl [HX]; · iexact HX
  isplitl [Hsc]; · iexact Hsc
  isplitl [Hs]; · iexact Hs
  isplitl [Hat] <;> iassumption

/-- All blocks arrived: the whole landing buffer. -/
theorem arrived : Fam (rvA c) (rvB m c) 32 ⊢ iprop(outFull m c ∗ rvAt c) := by
  have h : bigSep Finset.univ (rvB m c) = iprop(outFull m c ∗ rvAt c) := by
    unfold outFull rvAt
    rw [out_blocks, bigSep_univ_equiv (sources c) (fun d => outPts c d (outC m c)), ← bigSep_sep']
    rfl
  rw [Fam_full, h]

theorem to_out : iprop(Recs m K ∗ (Ow c 0 ∗ Fam (rvA c) (rvB m c) 32) ∗ Fam (sdB c) (sdD m c) 0 ∗ resA c ∗ aside' m c)
    ⊢ iprop(Recs m K ∗ outFull m c ∗ resA c ∗ Ow c 0 ∗ Fam (sdB c) (sdD m c) 0 ∗ aside' m c ∗ rvAt c) := by
  iintro ⟨HR, ⟨HO, HF⟩, HS, Hres, H⟩
  ihave HF := (arrived m c) $$ HF
  icases HF with ⟨HF, Hat⟩
  isplitl [HR]; · iexact HR
  isplitl [HF]; · iexact HF
  isplitl [Hres]; · iexact Hres
  isplitl [HO]; · iexact HO
  isplitl [HS]; · iexact HS
  isplitl [H] <;> iassumption

theorem to_res : iprop(Recs m K ∗ outFull m c ∗ resA c ∗ Ow c 0 ∗ Fam (sdB c) (sdD m c) 0 ∗ aside' m c ∗ rvAt c)
    ⊢ iprop(Recs m K ∗ resA c ∗ outFull m c ∗ Ow c 0 ∗ Fam (sdB c) (sdD m c) 0 ∗ aside' m c ∗ rvAt c) := by
  iintro ⟨HR, HF, Hres, H⟩
  isplitl [HR]; · iexact HR
  isplitl [Hres]; · iexact Hres
  isplitl [HF] <;> iassumption

theorem to_send_waits : iprop(Recs m K ∗ resFull m c ∗ outFull m c ∗ Ow c 0 ∗ Fam (sdB c) (sdD m c) 0 ∗ aside' m c ∗ rvAt c)
    ⊢ iprop(Recs m K ∗ (Ow c 0 ∗ Fam (sdB c) (sdD m c) 0) ∗ resFull m c ∗ outFull m c ∗ aside' m c ∗ rvAt c) := by
  iintro ⟨HR, Hres, HF, HO, HS, H⟩
  isplitl [HR]; · iexact HR
  isplitl [HO HS]; · isplitl [HO] <;> iassumption
  isplitl [Hres]; · iexact Hres
  isplitl [HF] <;> iassumption

/-- What the body ends with. -/
def bodyOut : sProp 𝕄 := iprop((Ow c 0 ∗ Fam (sdB c) (sdD m c) 32) ∗ resFull m c ∗ outFull m c ∗ aside' m c ∗ rvAt c)

/-- Chunk 0 goes to the devices of the residue's own eight. -/
theorem dev_chunk0 (b : Fin 8) {n : Dev nD} (h : n.val = 8 * (c.val % 4) + b.val) : n.val = 8 * ((c.val % 4 + (0 : Fin 4).val) % 4) + b.val := by
  rw [h]; show 8 * (c.val % 4) + b.val = 8 * ((c.val % 4 + 0) % 4) + b.val; omega

end States

/-! ## The own cells by their kind -/

theorem bigSep_fin_add (n₁ n₂ : ℕ) (Φ : Fin (n₁ + n₂) → sProp 𝕄) :
    bigSep Finset.univ Φ = iprop(bigSep Finset.univ (fun i => Φ (Fin.castAdd n₂ i)) ∗ bigSep Finset.univ (fun i => Φ (Fin.natAdd n₁ i))) :=
  (bigSep_univ_equiv (finSumFinEquiv (m := n₁) (n := n₂)) Φ).trans (bigSep_univ_sum _)

/-- Everything of the own cells: the copy of `x`, the copies of `w`, the sends, the receives. -/
theorem own_parts (Φ : Fin 69 → sProp 𝕄) : bigSep Finset.univ Φ
    = iprop(Φ xN ∗ bigSep Finset.univ (fun j => Φ (wN j)) ∗ bigSep Finset.univ (fun s => Φ (sN s)) ∗ bigSep Finset.univ (fun p => Φ (rN p))) := by
  have h1 := bigSep_fin_add 1 (4 + (32 + 32)) Φ
  have h2 := bigSep_fin_add 4 (32 + 32) fun i => Φ (Fin.natAdd 1 i)
  have h3 := bigSep_fin_add 32 32 fun i => Φ (Fin.natAdd 1 (Fin.natAdd 4 i))
  have e0 : bigSep Finset.univ (fun i : Fin 1 => Φ (Fin.castAdd (4 + (32 + 32)) i)) = Φ xN :=
    (bigSep_univ_eq_bigSepL [(0 : Fin 1)] (by decide) (by decide) _).trans rfl
  have es : (fun s : Fin 32 => Φ (Fin.natAdd 1 (Fin.natAdd 4 (Fin.castAdd 32 s)))) = fun s => Φ (sN s) :=
    funext fun s => congrArg Φ (Fin.ext (show 1 + (4 + s.val) = 5 + s.val by omega))
  have er : (fun s : Fin 32 => Φ (Fin.natAdd 1 (Fin.natAdd 4 (Fin.natAdd 32 s)))) = fun s => Φ (rN s) :=
    funext fun s => congrArg Φ (Fin.ext (show 1 + (4 + (32 + s.val)) = 37 + s.val by omega))
  refine h1.trans ?_
  rw [e0, h2, h3, es, er]
  rfl

/-- The slots of a device's sends, each once. -/
def slots (c : Dev nD) : Fin 32 ≃ Fin 32 := (sends c).trans (walk c).symm

theorem by_slot (c : Dev nD) (Φ : Fin 32 → sProp 𝕄) : bigSep Finset.univ (fun t => Φ (tslot c t)) = bigSep Finset.univ Φ :=
  (bigSep_univ_equiv (slots c) Φ).symm

/-! ## Closing -/

section Finish
variable (K : Dev nD × Option (Fin 69) → ℕ) (c : Dev nD)

/-- The buffers of the launch that no window stages, the kernel's own and the argument arrays, and the counters. -/
def bufs : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f))
def args : sProp 𝕄 :=
  iprop(((c : Thread nD τ).loc main_arg0 ↦{fullShare} m ((c : Thread nD τ).loc main_arg0))
    ∗ ((c : Thread nD τ).loc main_arg1 ↦{fullShare} m ((c : Thread nD τ).loc main_arg1)))
def zeroes : sProp 𝕄 := iprop(semVal (barCell c) 0 ∗ bigSep Finset.univ fun n => semVal (ownCell c n) 0)

/-- What the body leaves besides the staging buffers. -/
def Φ₁ : sProp 𝕄 := iprop(bufs c ∗ args m c ∗ zeroes c)

theorem close_cell (ck : Dev nD × Option (Fin 69)) : iprop(cellRec m K ck ∗ atPos ER (kcell ck) (0 + 1) ∅ 0) ⊢ |={Set.univ}=> semVal (kcell ck) 0 := by
  unfold cellRec
  iintro ⟨⟨HI, -⟩, H⟩
  iapply (Rounds.cell_close ER (sched m) (Set.mem_univ (K ck)) (fun h => h) (R := 0 + 1) (duties_later m (kcell ck)))
  isplitl [HI] <;> iassumption

/-- A persistent fact is there for every member of a family. -/
theorem with_all {I : Type} [Fintype I] [DecidableEq I] {R : sProp (MT nD τ sig Unit (Elt F) ℕ UU ℕ)} [BI.Persistent R]
    {Φ Ψ : I → sProp (MT nD τ sig Unit (Elt F) ℕ UU ℕ)} (h : ∀ i, iprop(R ∗ Φ i) ⊢ Ψ i) : iprop(R ∗ bigSep Finset.univ Φ) ⊢ bigSep Finset.univ Ψ := by
  have hR : R ⊢ bigSep (Finset.univ : Finset I) (fun _ => R) := BI.bigSep_of_persistent Finset.univ R
  have hs : iprop(bigSep (Finset.univ : Finset I) (fun _ => R) ∗ bigSep Finset.univ Φ) = bigSep Finset.univ (fun i => iprop(R ∗ Φ i)) := (bigSep_sep' _ _ _).symm
  refine BIBase.Entails.trans (Q := iprop(bigSep (Finset.univ : Finset I) (fun _ => R) ∗ bigSep Finset.univ Φ)) ?_ ?_
  · iintro ⟨HR, H⟩
    isplitl [HR]
    · iapply hR; iexact HR
    iexact H
  · rw [hs]; exact bigSep_mono fun i _ => h i

theorem close_own : iprop(Recs m K ∗ bigSep Finset.univ (fun n => at1 (F := F) c n)) ⊢ |={Set.univ}=> bigSep Finset.univ fun n => semVal (ownCell c n) 0 :=
  BIBase.Entails.trans (with_all (Ψ := fun n => iprop(|={Set.univ}=> semVal (ownCell c n) 0)) fun n => by
    iintro ⟨HR, H⟩
    ihave Hr := (rec_at m K (c, some n)) $$ HR
    iapply (close_cell m K (c, some n))
    unfold cellRec
    isplitl [Hr] <;> iassumption) (bigSep_fupd _ _)

theorem close_bar : iprop(Recs m K ∗ bar1 (F := F) c) ⊢ |={Set.univ}=> semVal (barCell c) 0 := by
  iintro ⟨HR, H⟩
  ihave Hr := (rec_at m K (c, none)) $$ HR
  iapply (close_cell m K (c, none))
  unfold cellRec
  isplitl [Hr] <;> iassumption

/-- The chunks of `w` together again. -/
theorem w_back : bigSep Finset.univ (wD m c) = iprop(((c : Thread nD τ).loc cc0_scratch1 ↦{fullShare} wC m c)
    ∗ ((c : Thread nD τ).loc main_arg1 ↦{fullShare} m ((c : Thread nD τ).loc main_arg1)) ∗ bigSep Finset.univ fun j => at1 c (wN j)) := by
  rw [w_blocks, wSrc_blocks, bigSep_univ_equiv (chunks c) (fun k => wPts c k (wC m c)), bigSep_univ_equiv (chunks c) (fun k => wSrc m c k),
    ← bigSep_sep', ← bigSep_sep']
  rfl

/-- The rows sent together again. -/
theorem acc_back : bigSep Finset.univ (sdD m c) = iprop(((c : Thread nD τ).loc cc0_scratch2 ↦{fullShare} accC m c) ∗ bigSep Finset.univ fun s => at1 c (sN s)) := by
  rw [acc_rows, bigSep_univ_equiv (sends c) (fun d => accPts c d (accC m c)), ← by_slot c (fun s => at1 c (sN s)), ← bigSep_sep']
  rfl

/-- The body's end: every cell's counter is back, every buffer whole. -/
theorem finish : iprop(Recs m K ∗ bodyOut m c) ⊢ |={Set.univ}=> iprop(Φ₁ m c ∗ Ow c 0 ∗ scPts m c ∗ resFull m c) := by
  unfold bodyOut aside' Φ₁ bufs args zeroes xPts xSrc
  rw [Fam_full, w_back, acc_back]
  iintro ⟨#HR, ⟨HO, Hacc, Hats⟩, Hres, Hout, ⟨⟨Hw, Hw1, Hatw⟩, Hx, Hsc, Hx0, Hatx, Hatb⟩, Hatr⟩
  imod (close_bar m K c) $$ [Hatb] with Hzb
  · isplitr; · iexact HR
    iexact Hatb
  ihave Hat := (Entails.of_eq (own_parts (fun n => at1 c n)).symm) $$ [Hatx Hatw Hats Hatr]
  · isplitl [Hatx]; · iexact Hatx
    isplitl [Hatw]; · iexact Hatw
    isplitl [Hats]; · iexact Hats
    unfold rvAt; iexact Hatr
  imod (close_own m K c) $$ [Hat] with Hz
  · isplitr; · iexact HR
    iexact Hat
  imodintro
  isplitr [HO Hsc Hres]
  · isplitl [Hx Hw Hacc Hout]
    · isplitl [Hx]; · iexists _; iexact Hx
      isplitl [Hw]; · iexists _; iexact Hw
      isplitl [Hacc]; · iexists _; iexact Hacc
      iexists _; iexact Hout
    isplitl [Hx0 Hw1]
    · isplitl [Hx0] <;> iassumption
    isplitl [Hzb] <;> iassumption
  isplitl [HO]; · iexact HO
  isplitl [Hsc] <;> iassumption

end Finish

end Cert.AllToAll

end
-- ==== Proof.Body.lean ====
/-
The body of the kernel on a device, from what the launch hands it to what it leaves: one rule per effect, in the order
of the program, the parts of the program one after another.
-/
module

public import proofs.«01_k».proof.Proof.States

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 4000000 in
set_option maxRecDepth 4000 in
/-- The body of device `c`. -/
theorem body_run (K : Dev nD × Option (Fin 69) → ℕ) (c : Dev nD) :
    iprop(Recs m K ∗ bodyIn m c) ⊢ Wp c
      (cc0_body (Memref.whole main_arg0) (Memref.isWhole_whole _) (Memref.whole main_arg1) (Memref.isWhole_whole _)
        (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7)
      (fun _ => iprop(Φ₁ m c ∗ Ow c 0 ∗ scPts m c ∗ resFull m c)) := by
  unfold bodyIn
  simp only [cc0_body_eq_skeleton, cc0_body_skel]
  refine seq (S' := iprop(Recs m K ∗ (Ow c 0 ∗ Fam (sdB c) (sdD m c) 28) ∗ resFull m c ∗ outFull m c ∗ aside' m c ∗ rvAt c)) (fun d => c = d) ?_ ?_
  rotate_left
  · rintro _ rfl
    simp only [semSignalWord, semWaitWord, smemLoad, smemLoadElt, Prog.lift, Prog.bind_op, Prog.bind_ret, Prog.pure_eq_ret, wp_deviceId]
    refine wait_send m K c 3 4 28 rfl ?_ ?_
    · exact k0_off4_eq c 3 4
    refine wait_send m K c 3 5 29 rfl ?_ ?_
    · exact k0_off4_eq c 3 5
    refine wait_send m K c 3 6 30 rfl ?_ ?_
    · exact k0_off4_eq c 3 6
    refine wait_send m K c 3 7 31 rfl ?_ ?_
    · exact k0_off4_eq c 3 7
    unfold Wp
    rw [wp_ret]
    exact finish m K c
  simp only [k0_part39_eq_skeleton, k0_part39_skel]
  refine seq (S' := iprop(Recs m K ∗ Fam (wA m c) (wB c) 3 ∗ xB c ∗ Sg c 1 ∗ (cred (tallyAt (barCell c) () 31) ∗ bar0 c) ∗ later m c)) (fun r => c = r.1) ?_ ?_
  · simp only [k0_part1_eq_skeleton, k0_part1_skel, semSignalWord, semWaitWord, smemLoad, smemLoadElt, Prog.lift, Prog.bind_op, Prog.bind_ret, Prog.pure_eq_ret, wp_deviceId]
    refine step_x m K c rfl ?_
    refine BIBase.Entails.trans (to_w m K c) ?_
    refine step_w m K c 0 rfl ?_ ?_
    · exact k0_off1_eq c 0
    refine step_w m K c 1 rfl ?_ ?_
    · exact k0_off1_eq c 1
    refine step_w m K c 2 rfl ?_ ?_
    · exact k0_off1_eq c 2
    exact done rfl
  rintro ⟨d0, v2, v3, v28, _⟩ rfl
  dsimp only
  refine seq (S' := iprop(Recs m K ∗ Sg c 5 ∗ Fam (wB c) (wD m c) 0 ∗ xB c ∗ (cred (tallyAt (barCell c) () 31) ∗ bar0 c) ∗ later m c)) (fun r => r.1 = SemArray.scalar (sig.barrier 0 rfl)) ?_ ?_
  · simp only [k0_part2_eq_skeleton, k0_part2_skel, semSignalWord, semWaitWord, smemLoad, smemLoadElt, Prog.lift, Prog.bind_op, Prog.bind_ret, Prog.pure_eq_ret, wp_deviceId]
    refine step_w m K c 3 rfl ?_ ?_
    · exact k0_off1_eq c 3
    refine BIBase.Entails.trans (to_signals m K c) ?_
    refine step_sig m K c 1 (by decide) ?_ ?_
    · exact k0_dev1_eq c
    refine step_sig m K c 2 (by decide) ?_ ?_
    · exact k0_dev2_eq c
    refine step_sig m K c 3 (by decide) ?_ ?_
    · exact k0_dev3_eq c
    refine step_sig m K c 4 (by decide) ?_ ?_
    · exact k0_dev4_eq c
    exact done rfl
  rintro ⟨v36, v54, _⟩ rfl
  dsimp only
  refine seq (S' := iprop(Recs m K ∗ Sg c 11 ∗ Fam (wB c) (wD m c) 0 ∗ xB c ∗ (cred (tallyAt (barCell c) () 31) ∗ bar0 c) ∗ later m c)) (fun _ => True) ?_ ?_
  · simp only [k0_part3_eq_skeleton, k0_part3_skel, semSignalWord, semWaitWord, smemLoad, smemLoadElt, Prog.lift, Prog.bind_op, Prog.bind_ret, Prog.pure_eq_ret, wp_deviceId]
    refine step_sig m K c 5 (by decide) ?_ ?_
    · exact k0_dev5_eq c
    refine step_sig m K c 6 (by decide) ?_ ?_
    · exact k0_dev6_eq c
    refine step_sig m K c 7 (by decide) ?_ ?_
    · exact k0_dev7_eq c
    refine step_sig m K c 8 (by decide) ?_ ?_
    · exact k0_dev8_eq c
    refine step_sig m K c 9 (by decide) ?_ ?_
    · exact k0_dev9_eq c
    refine step_sig m K c 10 (by decide) ?_ ?_
    · exact k0_dev10_eq c
    exact done trivial
  rintro ⟨v78, _⟩ -
  dsimp only
  refine seq (S' := iprop(Recs m K ∗ Sg c 17 ∗ Fam (wB c) (wD m c) 0 ∗ xB c ∗ (cred (tallyAt (barCell c) () 31) ∗ bar0 c) ∗ later m c)) (fun _ => True) ?_ ?_
  · simp only [k0_part4_eq_skeleton, k0_part4_skel, semSignalWord, semWaitWord, smemLoad, smemLoadElt, Prog.lift, Prog.bind_op, Prog.bind_ret, Prog.pure_eq_ret, wp_deviceId]
    refine step_sig m K c 11 (by decide) ?_ ?_
    · exact k0_dev11_eq c
    refine step_sig m K c 12 (by decide) ?_ ?_
    · exact k0_dev12_eq c
    refine step_sig m K c 13 (by decide) ?_ ?_
    · exact k0_dev13_eq c
    refine step_sig m K c 14 (by decide) ?_ ?_
    · exact k0_dev14_eq c
    refine step_sig m K c 15 (by decide) ?_ ?_
    · exact k0_dev15_eq c
    refine step_sig m K c 16 (by decide) ?_ ?_
    · exact k0_dev16_eq c
    exact done trivial
  rintro ⟨v102, _⟩ -
  dsimp only
  refine seq (S' := iprop(Recs m K ∗ Sg c 23 ∗ Fam (wB c) (wD m c) 0 ∗ xB c ∗ (cred (tallyAt (barCell c) () 31) ∗ bar0 c) ∗ later m c)) (fun _ => True) ?_ ?_
  · simp only [k0_part5_eq_skeleton, k0_part5_skel, semSignalWord, semWaitWord, smemLoad, smemLoadElt, Prog.lift, Prog.bind_op, Prog.bind_ret, Prog.pure_eq_ret, wp_deviceId]
    refine step_sig m K c 17 (by decide) ?_ ?_
    · exact k0_dev17_eq c
    refine step_sig m K c 18 (by decide) ?_ ?_
    · exact k0_dev18_eq c
    refine step_sig m K c 19 (by decide) ?_ ?_
    · exact k0_dev19_eq c
    refine step_sig m K c 20 (by decide) ?_ ?_
    · exact k0_dev20_eq c
    refine step_sig m K c 21 (by decide) ?_ ?_
    · exact k0_dev21_eq c
    refine step_sig m K c 22 (by decide) ?_ ?_
    · exact k0_dev22_eq c
    exact done trivial
  rintro ⟨v126, _⟩ -
  dsimp only
  refine seq (S' := iprop(Recs m K ∗ Sg c 29 ∗ Fam (wB c) (wD m c) 0 ∗ xB c ∗ (cred (tallyAt (barCell c) () 31) ∗ bar0 c) ∗ later m c)) (fun _ => True) ?_ ?_
  · simp only [k0_part6_eq_skeleton, k0_part6_skel, semSignalWord, semWaitWord, smemLoad, smemLoadElt, Prog.lift, Prog.bind_op, Prog.bind_ret, Prog.pure_eq_ret, wp_deviceId]
    refine step_sig m K c 23 (by decide) ?_ ?_
    · exact k0_dev23_eq c
    refine step_sig m K c 24 (by decide) ?_ ?_
    · exact k0_dev24_eq c
    refine step_sig m K c 25 (by decide) ?_ ?_
    · exact k0_dev25_eq c
    refine step_sig m K c 26 (by decide) ?_ ?_
    · exact k0_dev26_eq c
    refine step_sig m K c 27 (by decide) ?_ ?_
    · exact k0_dev27_eq c
    refine step_sig m K c 28 (by decide) ?_ ?_
    · exact k0_dev28_eq c
    exact done trivial
  rintro ⟨v150, _⟩ -
  dsimp only
  refine seq (S' := iprop(Recs m K ∗ Sn c 0 ∗ Rd m c 0 ∗ scPts m c ∗ aside m c)) (fun r => k0_pay1 (stg0 m c i0) (stg1 m c i0) = r.1 ∧ k0_pay2 (stg0 m c i0) (stg1 m c i0) (xC m c) (wCol m c (chunk c 0)) = r.2.2.1) ?_ ?_
  · simp only [k0_part7_eq_skeleton, k0_part7_skel, semSignalWord, semWaitWord, smemLoad, smemLoadElt, Prog.lift, Prog.bind_op, Prog.bind_ret, Prog.pure_eq_ret, wp_deviceId]
    refine step_sig m K c 29 (by decide) ?_ ?_
    · exact k0_dev29_eq c
    refine step_sig m K c 30 (by decide) ?_ ?_
    · exact k0_dev30_eq c
    refine step_sig m K c 31 (by decide) ?_ ?_
    · exact k0_dev31_eq c
    refine BIBase.Entails.trans (to_barrier m K c) ?_
    refine step_bar m K c ?_
    refine BIBase.Entails.trans (to_wait_x m K c) ?_
    refine wait_x m K c rfl ?_
    refine BIBase.Entails.trans (to_scales m K c) ?_
    refine step_scale0 m K c ?_
    refine step_scale1 m K c ?_
    refine BIBase.Entails.trans (to_chunks m K c) ?_
    refine step_chunk m K c 0 0 rfl ?_
    refine step_load_x m K c 0 0 ?_
    refine step_load_w m K c 0 0 ?_ ?_
    · exact k0_off2_eq c 0
    exact done ⟨rfl, rfl⟩
  rintro ⟨v163, v165, v178, _⟩ ⟨rfl, rfl⟩
  dsimp only
  refine seq (S' := iprop(Recs m K ∗ Sd m c 0 2 ∗ Side m c 1 ∗ scPts m c ∗ aside m c)) (fun _ => True) ?_ ?_
  · simp only [k0_part8_eq_skeleton, k0_part8_skel, semSignalWord, semWaitWord, smemLoad, smemLoadElt, Prog.lift, Prog.bind_op, Prog.bind_ret, Prog.pure_eq_ret, wp_deviceId]
    refine step_dead m K c 0 0 ?_ fun _ => ?_
    · exact k0_off3_eq c 0
    refine step_store m K c 0 ?_ ?_ ?_
    · exact k0_off3_eq c 0
    · rfl
    refine step_send m K c 0 0 ?_ ?_ rfl ?_ ?_ ?_
    · exact (dev_chunk0 c 0 (k0_dev32_eq c))
    · exact k0_off4_eq c 0 0
    · exact k0_off6_eq c 0 0
    · exact k0_off5_eq c
    refine step_send m K c 0 1 ?_ ?_ rfl ?_ ?_ ?_
    · exact (dev_chunk0 c 1 (k0_dev33_eq c))
    · exact k0_off4_eq c 0 1
    · exact k0_off6_eq c 0 1
    · exact k0_off5_eq c
    exact done trivial
  rintro v183 -
  refine seq (S' := iprop(Recs m K ∗ Sd m c 0 4 ∗ Side m c 1 ∗ scPts m c ∗ aside m c)) (fun _ => True) ?_ ?_
  · simp only [k0_part9_eq_skeleton, k0_part9_skel, semSignalWord, semWaitWord, smemLoad, smemLoadElt, Prog.lift, Prog.bind_op, Prog.bind_ret, Prog.pure_eq_ret, wp_deviceId]
    refine step_send m K c 0 2 ?_ ?_ rfl ?_ ?_ ?_
    · exact (dev_chunk0 c 2 (k0_dev34_eq c))
    · exact k0_off4_eq c 0 2
    · exact k0_off6_eq c 0 2
    · exact k0_off5_eq c
    refine step_send m K c 0 3 ?_ ?_ rfl ?_ ?_ ?_
    · exact (dev_chunk0 c 3 (k0_dev35_eq c))
    · exact k0_off4_eq c 0 3
    · exact k0_off6_eq c 0 3
    · exact k0_off5_eq c
    exact done trivial
  rintro v245 -
  refine seq (S' := iprop(Recs m K ∗ Sd m c 0 6 ∗ Side m c 1 ∗ scPts m c ∗ aside m c)) (fun _ => True) ?_ ?_
  · simp only [k0_part10_eq_skeleton, k0_part10_skel, semSignalWord, semWaitWord, smemLoad, smemLoadElt, Prog.lift, Prog.bind_op, Prog.bind_ret, Prog.pure_eq_ret, wp_deviceId]
    refine step_send m K c 0 4 ?_ ?_ rfl ?_ ?_ ?_
    · exact (dev_chunk0 c 4 (k0_dev36_eq c))
    · exact k0_off4_eq c 0 4
    · exact k0_off6_eq c 0 4
    · exact k0_off5_eq c
    refine step_send m K c 0 5 ?_ ?_ rfl ?_ ?_ ?_
    · exact (dev_chunk0 c 5 (k0_dev37_eq c))
    · exact k0_off4_eq c 0 5
    · exact k0_off6_eq c 0 5
    · exact k0_off5_eq c
    exact done trivial
  rintro _ -
  refine seq (S' := iprop(Recs m K ∗ Sn c 8 ∗ Rd m c 1 ∗ scPts m c ∗ aside m c)) (fun r => k0_pay4 (k0_pay1 (stg0 m c i0) (stg1 m c i0)) (xC m c) (wCol m c (chunk c 1)) = r.2) ?_ ?_
  · simp only [k0_part11_eq_skeleton, k0_part11_skel, semSignalWord, semWaitWord, smemLoad, smemLoadElt, Prog.lift, Prog.bind_op, Prog.bind_ret, Prog.pure_eq_ret, wp_deviceId]
    refine step_send m K c 0 6 ?_ ?_ rfl ?_ ?_ ?_
    · exact (dev_chunk0 c 6 (k0_dev38_eq c))
    · exact k0_off4_eq c 0 6
    · exact k0_off6_eq c 0 6
    · exact k0_off5_eq c
    refine step_send m K c 0 7 ?_ ?_ rfl ?_ ?_ ?_
    · exact (dev_chunk0 c 7 (k0_dev39_eq c))
    · exact k0_off4_eq c 0 7
    · exact k0_off6_eq c 0 7
    · exact k0_off5_eq c
    refine BIBase.Entails.trans (sent m K c 0) ?_
    refine step_chunk m K c 1 8 rfl ?_
    refine step_load_x m K c 1 8 ?_
    refine step_load_w m K c 1 8 ?_ ?_
    · exact k0_off2_eq c 1
    exact done rfl
  rintro ⟨v305, v317⟩ rfl
  dsimp only
  refine seq (S' := iprop(Recs m K ∗ Sd m c 1 1 ∗ Side m c 2 ∗ scPts m c ∗ aside m c)) (fun _ => True) ?_ ?_
  · simp only [k0_part12_eq_skeleton, k0_part12_skel, semSignalWord, semWaitWord, smemLoad, smemLoadElt, Prog.lift, Prog.bind_op, Prog.bind_ret, Prog.pure_eq_ret, wp_deviceId]
    refine step_dead m K c 1 8 ?_ fun _ => ?_
    · exact k0_off3_eq c 1
    refine step_store m K c 1 ?_ ?_ ?_
    · exact k0_off3_eq c 1
    · rfl
    refine step_send m K c 1 0 ?_ ?_ rfl ?_ ?_ ?_
    · exact (k0_dev40_eq c)
    · exact k0_off4_eq c 1 0
    · exact k0_off6_eq c 1 0
    · exact k0_off5_eq c
    exact done trivial
  rintro _ -
  refine seq (S' := iprop(Recs m K ∗ Sd m c 1 4 ∗ Side m c 2 ∗ scPts m c ∗ aside m c)) (fun _ => True) ?_ ?_
  · simp only [k0_part13_eq_skeleton, k0_part13_skel, semSignalWord, semWaitWord, smemLoad, smemLoadElt, Prog.lift, Prog.bind_op, Prog.bind_ret, Prog.pure_eq_ret, wp_deviceId]
    refine step_send m K c 1 1 ?_ ?_ rfl ?_ ?_ ?_
    · exact (k0_dev41_eq c)
    · exact k0_off4_eq c 1 1
    · exact k0_off6_eq c 1 1
    · exact k0_off5_eq c
    refine step_send m K c 1 2 ?_ ?_ rfl ?_ ?_ ?_
    · exact (k0_dev42_eq c)
    · exact k0_off4_eq c 1 2
    · exact k0_off6_eq c 1 2
    · exact k0_off5_eq c
    refine step_send m K c 1 3 ?_ ?_ rfl ?_ ?_ ?_
    · exact (k0_dev43_eq c)
    · exact k0_off4_eq c 1 3
    · exact k0_off6_eq c 1 3
    · exact k0_off5_eq c
    exact done trivial
  rintro ⟨v385, v387⟩ -
  dsimp only
  refine seq (S' := iprop(Recs m K ∗ Sd m c 1 6 ∗ Side m c 2 ∗ scPts m c ∗ aside m c)) (fun _ => True) ?_ ?_
  · simp only [k0_part14_eq_skeleton, k0_part14_skel, semSignalWord, semWaitWord, smemLoad, smemLoadElt, Prog.lift, Prog.bind_op, Prog.bind_ret, Prog.pure_eq_ret, wp_deviceId]
    refine step_send m K c 1 4 ?_ ?_ rfl ?_ ?_ ?_
    · exact (k0_dev44_eq c)
    · exact k0_off4_eq c 1 4
    · exact k0_off6_eq c 1 4
    · exact k0_off5_eq c
    refine step_send m K c 1 5 ?_ ?_ rfl ?_ ?_ ?_
    · exact (k0_dev45_eq c)
    · exact k0_off4_eq c 1 5
    · exact k0_off6_eq c 1 5
    · exact k0_off5_eq c
    exact done trivial
  rintro v421 -
  refine seq (S' := iprop(Recs m K ∗ Sn c 16 ∗ Rd m c 2 ∗ scPts m c ∗ aside m c)) (fun r => k0_pay6 (xC m c) (wCol m c (chunk c 2)) = r.2.1 ∧ k0_pay7 (k0_pay1 (stg0 m c i0) (stg1 m c i0)) = r.2.2) ?_ ?_
  · simp only [k0_part15_eq_skeleton, k0_part15_skel, semSignalWord, semWaitWord, smemLoad, smemLoadElt, Prog.lift, Prog.bind_op, Prog.bind_ret, Prog.pure_eq_ret, wp_deviceId]
    refine step_send m K c 1 6 ?_ ?_ rfl ?_ ?_ ?_
    · exact (k0_dev46_eq c)
    · exact k0_off4_eq c 1 6
    · exact k0_off6_eq c 1 6
    · exact k0_off5_eq c
    refine step_send m K c 1 7 ?_ ?_ rfl ?_ ?_ ?_
    · exact (k0_dev47_eq c)
    · exact k0_off4_eq c 1 7
    · exact k0_off6_eq c 1 7
    · exact k0_off5_eq c
    refine BIBase.Entails.trans (sent m K c 1) ?_
    refine step_chunk m K c 2 16 rfl ?_
    refine step_load_x m K c 2 16 ?_
    refine step_load_w m K c 2 16 ?_ ?_
    · exact k0_off2_eq c 2
    exact done ⟨rfl, rfl⟩
  rintro ⟨v445, v454, v455⟩ ⟨rfl, rfl⟩
  dsimp only
  refine seq (S' := iprop(Recs m K ∗ Sd m c 2 1 ∗ Side m c 3 ∗ scPts m c ∗ aside m c)) (fun _ => True) ?_ ?_
  · simp only [k0_part16_eq_skeleton, k0_part16_skel, semSignalWord, semWaitWord, smemLoad, smemLoadElt, Prog.lift, Prog.bind_op, Prog.bind_ret, Prog.pure_eq_ret, wp_deviceId]
    refine step_dead m K c 2 16 ?_ fun _ => ?_
    · exact k0_off3_eq c 2
    refine step_store m K c 2 ?_ ?_ ?_
    · exact k0_off3_eq c 2
    · rfl
    refine step_send m K c 2 0 ?_ ?_ rfl ?_ ?_ ?_
    · exact (k0_dev48_eq c)
    · exact k0_off4_eq c 2 0
    · exact k0_off6_eq c 2 0
    · exact k0_off5_eq c
    exact done trivial
  rintro _ -
  refine seq (S' := iprop(Recs m K ∗ Sd m c 2 4 ∗ Side m c 3 ∗ scPts m c ∗ aside m c)) (fun _ => True) ?_ ?_
  · simp only [k0_part17_eq_skeleton, k0_part17_skel, semSignalWord, semWaitWord, smemLoad, smemLoadElt, Prog.lift, Prog.bind_op, Prog.bind_ret, Prog.pure_eq_ret, wp_deviceId]
    refine step_send m K c 2 1 ?_ ?_ rfl ?_ ?_ ?_
    · exact (k0_dev49_eq c)
    · exact k0_off4_eq c 2 1
    · exact k0_off6_eq c 2 1
    · exact k0_off5_eq c
    refine step_send m K c 2 2 ?_ ?_ rfl ?_ ?_ ?_
    · exact (k0_dev50_eq c)
    · exact k0_off4_eq c 2 2
    · exact k0_off6_eq c 2 2
    · exact k0_off5_eq c
    refine step_send m K c 2 3 ?_ ?_ rfl ?_ ?_ ?_
    · exact (k0_dev51_eq c)
    · exact k0_off4_eq c 2 3
    · exact k0_off6_eq c 2 3
    · exact k0_off5_eq c
    exact done trivial
  rintro ⟨v525, v526⟩ -
  dsimp only
  refine seq (S' := iprop(Recs m K ∗ Sd m c 2 6 ∗ Side m c 3 ∗ scPts m c ∗ aside m c)) (fun _ => True) ?_ ?_
  · simp only [k0_part18_eq_skeleton, k0_part18_skel, semSignalWord, semWaitWord, smemLoad, smemLoadElt, Prog.lift, Prog.bind_op, Prog.bind_ret, Prog.pure_eq_ret, wp_deviceId]
    refine step_send m K c 2 4 ?_ ?_ rfl ?_ ?_ ?_
    · exact (k0_dev52_eq c)
    · exact k0_off4_eq c 2 4
    · exact k0_off6_eq c 2 4
    · exact k0_off5_eq c
    refine step_send m K c 2 5 ?_ ?_ rfl ?_ ?_ ?_
    · exact (k0_dev53_eq c)
    · exact k0_off4_eq c 2 5
    · exact k0_off6_eq c 2 5
    · exact k0_off5_eq c
    exact done trivial
  rintro v555 -
  refine seq (S' := iprop(Recs m K ∗ Sn c 24 ∗ Rd m c 3 ∗ scPts m c ∗ aside m c)) (fun r => xC m c = r.2.1 ∧ wCol m c (chunk c 3) = r.2.2.1 ∧ constant S128x512 .f32 0x00000000#32 = r.2.2.2) ?_ ?_
  · simp only [k0_part19_eq_skeleton, k0_part19_skel, semSignalWord, semWaitWord, smemLoad, smemLoadElt, Prog.lift, Prog.bind_op, Prog.bind_ret, Prog.pure_eq_ret, wp_deviceId]
    refine step_send m K c 2 6 ?_ ?_ rfl ?_ ?_ ?_
    · exact (k0_dev54_eq c)
    · exact k0_off4_eq c 2 6
    · exact k0_off6_eq c 2 6
    · exact k0_off5_eq c
    refine step_send m K c 2 7 ?_ ?_ rfl ?_ ?_ ?_
    · exact (k0_dev55_eq c)
    · exact k0_off4_eq c 2 7
    · exact k0_off6_eq c 2 7
    · exact k0_off5_eq c
    refine BIBase.Entails.trans (sent m K c 2) ?_
    refine step_chunk m K c 3 24 rfl ?_
    refine step_load_x m K c 3 24 ?_
    refine step_load_w m K c 3 24 ?_ ?_
    · exact k0_off2_eq c 3
    exact done ⟨rfl, rfl, rfl⟩
  rintro ⟨v585, v590, v593, cst⟩ ⟨rfl, rfl, rfl⟩
  dsimp only
  refine seq (S' := iprop(Recs m K ∗ Sd m c 3 1 ∗ Side m c 4 ∗ scPts m c ∗ aside m c)) (fun _ => True) ?_ ?_
  · simp only [k0_part20_eq_skeleton, k0_part20_skel, semSignalWord, semWaitWord, smemLoad, smemLoadElt, Prog.lift, Prog.bind_op, Prog.bind_ret, Prog.pure_eq_ret, wp_deviceId]
    refine step_dead m K c 3 24 ?_ fun _ => ?_
    · exact k0_off3_eq c 3
    refine step_store m K c 3 ?_ ?_ ?_
    · exact k0_off3_eq c 3
    · rfl
    refine step_send m K c 3 0 ?_ ?_ rfl ?_ ?_ ?_
    · exact (k0_dev56_eq c)
    · exact k0_off4_eq c 3 0
    · exact k0_off6_eq c 3 0
    · exact k0_off5_eq c
    exact done trivial
  rintro _ -
  refine seq (S' := iprop(Recs m K ∗ Sd m c 3 4 ∗ Side m c 4 ∗ scPts m c ∗ aside m c)) (fun _ => True) ?_ ?_
  · simp only [k0_part21_eq_skeleton, k0_part21_skel, semSignalWord, semWaitWord, smemLoad, smemLoadElt, Prog.lift, Prog.bind_op, Prog.bind_ret, Prog.pure_eq_ret, wp_deviceId]
    refine step_send m K c 3 1 ?_ ?_ rfl ?_ ?_ ?_
    · exact (k0_dev57_eq c)
    · exact k0_off4_eq c 3 1
    · exact k0_off6_eq c 3 1
    · exact k0_off5_eq c
    refine step_send m K c 3 2 ?_ ?_ rfl ?_ ?_ ?_
    · exact (k0_dev58_eq c)
    · exact k0_off4_eq c 3 2
    · exact k0_off6_eq c 3 2
    · exact k0_off5_eq c
    refine step_send m K c 3 3 ?_ ?_ rfl ?_ ?_ ?_
    · exact (k0_dev59_eq c)
    · exact k0_off4_eq c 3 3
    · exact k0_off6_eq c 3 3
    · exact k0_off5_eq c
    exact done trivial
  rintro ⟨v664, _⟩ -
  dsimp only
  refine seq (S' := iprop(Recs m K ∗ Sd m c 3 6 ∗ Side m c 4 ∗ scPts m c ∗ aside m c)) (fun _ => True) ?_ ?_
  · simp only [k0_part22_eq_skeleton, k0_part22_skel, semSignalWord, semWaitWord, smemLoad, smemLoadElt, Prog.lift, Prog.bind_op, Prog.bind_ret, Prog.pure_eq_ret, wp_deviceId]
    refine step_send m K c 3 4 ?_ ?_ rfl ?_ ?_ ?_
    · exact (k0_dev60_eq c)
    · exact k0_off4_eq c 3 4
    · exact k0_off6_eq c 3 4
    · exact k0_off5_eq c
    refine step_send m K c 3 5 ?_ ?_ rfl ?_ ?_ ?_
    · exact (k0_dev61_eq c)
    · exact k0_off4_eq c 3 5
    · exact k0_off6_eq c 3 5
    · exact k0_off5_eq c
    exact done trivial
  rintro v695 -
  refine seq (S' := iprop(Recs m K ∗ (Ow c 0 ∗ Fam (rvA c) (rvB m c) 0) ∗ Fam (sdB c) (sdD m c) 0 ∗ resA c ∗ aside' m c)) (fun _ => True) ?_ ?_
  · simp only [k0_part23_eq_skeleton, k0_part23_skel, semSignalWord, semWaitWord, smemLoad, smemLoadElt, Prog.lift, Prog.bind_op, Prog.bind_ret, Prog.pure_eq_ret, wp_deviceId]
    refine step_send m K c 3 6 ?_ ?_ rfl ?_ ?_ ?_
    · exact (k0_dev62_eq c)
    · exact k0_off4_eq c 3 6
    · exact k0_off6_eq c 3 6
    · exact k0_off5_eq c
    refine step_send m K c 3 7 ?_ ?_ rfl ?_ ?_ ?_
    · exact (k0_dev63_eq c)
    · exact k0_off4_eq c 3 7
    · exact k0_off6_eq c 3 7
    · exact k0_off5_eq c
    refine BIBase.Entails.trans (sent m K c 3) ?_
    refine BIBase.Entails.trans (to_recvs m K c) ?_
    exact done trivial
  rintro _ -
  refine seq (S' := iprop(Recs m K ∗ (Ow c 0 ∗ Fam (rvA c) (rvB m c) 3) ∗ Fam (sdB c) (sdD m c) 0 ∗ resA c ∗ aside' m c)) (fun _ => True) ?_ ?_
  · simp only [k0_part24_eq_skeleton, k0_part24_skel, semSignalWord, semWaitWord, smemLoad, smemLoadElt, Prog.lift, Prog.bind_op, Prog.bind_ret, Prog.pure_eq_ret, wp_deviceId]
    refine wait_recv m K c 0 rfl ?_
    refine wait_recv m K c 1 rfl ?_
    refine wait_recv m K c 2 rfl ?_
    exact done trivial
  rintro ⟨v758, _⟩ -
  dsimp only
  refine seq (S' := iprop(Recs m K ∗ (Ow c 0 ∗ Fam (rvA c) (rvB m c) 6) ∗ Fam (sdB c) (sdD m c) 0 ∗ resA c ∗ aside' m c)) (fun _ => True) ?_ ?_
  · simp only [k0_part25_eq_skeleton, k0_part25_skel, semSignalWord, semWaitWord, smemLoad, smemLoadElt, Prog.lift, Prog.bind_op, Prog.bind_ret, Prog.pure_eq_ret, wp_deviceId]
    refine wait_recv m K c 3 rfl ?_
    refine wait_recv m K c 4 rfl ?_
    refine wait_recv m K c 5 rfl ?_
    exact done trivial
  rintro ⟨v786, _⟩ -
  dsimp only
  refine seq (S' := iprop(Recs m K ∗ (Ow c 0 ∗ Fam (rvA c) (rvB m c) 9) ∗ Fam (sdB c) (sdD m c) 0 ∗ resA c ∗ aside' m c)) (fun _ => True) ?_ ?_
  · simp only [k0_part26_eq_skeleton, k0_part26_skel, semSignalWord, semWaitWord, smemLoad, smemLoadElt, Prog.lift, Prog.bind_op, Prog.bind_ret, Prog.pure_eq_ret, wp_deviceId]
    refine wait_recv m K c 6 rfl ?_
    refine wait_recv m K c 7 rfl ?_
    refine wait_recv m K c 8 rfl ?_
    exact done trivial
  rintro _ -
  refine seq (S' := iprop(Recs m K ∗ (Ow c 0 ∗ Fam (rvA c) (rvB m c) 11) ∗ Fam (sdB c) (sdD m c) 0 ∗ resA c ∗ aside' m c)) (fun _ => True) ?_ ?_
  · simp only [k0_part27_eq_skeleton, k0_part27_skel, semSignalWord, semWaitWord, smemLoad, smemLoadElt, Prog.lift, Prog.bind_op, Prog.bind_ret, Prog.pure_eq_ret, wp_deviceId]
    refine wait_recv m K c 9 rfl ?_
    refine wait_recv m K c 10 rfl ?_
    exact done trivial
  rintro _ -
  refine seq (S' := iprop(Recs m K ∗ (Ow c 0 ∗ Fam (rvA c) (rvB m c) 14) ∗ Fam (sdB c) (sdD m c) 0 ∗ resA c ∗ aside' m c)) (fun _ => True) ?_ ?_
  · simp only [k0_part28_eq_skeleton, k0_part28_skel, semSignalWord, semWaitWord, smemLoad, smemLoadElt, Prog.lift, Prog.bind_op, Prog.bind_ret, Prog.pure_eq_ret, wp_deviceId]
    refine wait_recv m K c 11 rfl ?_
    refine wait_recv m K c 12 rfl ?_
    refine wait_recv m K c 13 rfl ?_
    exact done trivial
  rintro ⟨v866, _⟩ -
  dsimp only
  refine seq (S' := iprop(Recs m K ∗ (Ow c 0 ∗ Fam (rvA c) (rvB m c) 17) ∗ Fam (sdB c) (sdD m c) 0 ∗ resA c ∗ aside' m c)) (fun _ => True) ?_ ?_
  · simp only [k0_part29_eq_skeleton, k0_part29_skel, semSignalWord, semWaitWord, smemLoad, smemLoadElt, Prog.lift, Prog.bind_op, Prog.bind_ret, Prog.pure_eq_ret, wp_deviceId]
    refine wait_recv m K c 14 rfl ?_
    refine wait_recv m K c 15 rfl ?_
    refine wait_recv m K c 16 rfl ?_
    exact done trivial
  rintro ⟨v895, _⟩ -
  dsimp only
  refine seq (S' := iprop(Recs m K ∗ (Ow c 0 ∗ Fam (rvA c) (rvB m c) 19) ∗ Fam (sdB c) (sdD m c) 0 ∗ resA c ∗ aside' m c)) (fun _ => True) ?_ ?_
  · simp only [k0_part30_eq_skeleton, k0_part30_skel, semSignalWord, semWaitWord, smemLoad, smemLoadElt, Prog.lift, Prog.bind_op, Prog.bind_ret, Prog.pure_eq_ret, wp_deviceId]
    refine wait_recv m K c 17 rfl ?_
    refine wait_recv m K c 18 rfl ?_
    exact done trivial
  rintro _ -
  refine seq (S' := iprop(Recs m K ∗ (Ow c 0 ∗ Fam (rvA c) (rvB m c) 22) ∗ Fam (sdB c) (sdD m c) 0 ∗ resA c ∗ aside' m c)) (fun _ => True) ?_ ?_
  · simp only [k0_part31_eq_skeleton, k0_part31_skel, semSignalWord, semWaitWord, smemLoad, smemLoadElt, Prog.lift, Prog.bind_op, Prog.bind_ret, Prog.pure_eq_ret, wp_deviceId]
    refine wait_recv m K c 19 rfl ?_
    refine wait_recv m K c 20 rfl ?_
    refine wait_recv m K c 21 rfl ?_
    exact done trivial
  rintro _ -
  refine seq (S' := iprop(Recs m K ∗ (Ow c 0 ∗ Fam (rvA c) (rvB m c) 25) ∗ Fam (sdB c) (sdD m c) 0 ∗ resA c ∗ aside' m c)) (fun _ => True) ?_ ?_
  · simp only [k0_part32_eq_skeleton, k0_part32_skel, semSignalWord, semWaitWord, smemLoad, smemLoadElt, Prog.lift, Prog.bind_op, Prog.bind_ret, Prog.pure_eq_ret, wp_deviceId]
    refine wait_recv m K c 22 rfl ?_
    refine wait_recv m K c 23 rfl ?_
    refine wait_recv m K c 24 rfl ?_
    exact done trivial
  rintro v976 -
  refine seq (S' := iprop(Recs m K ∗ (Ow c 0 ∗ Fam (rvA c) (rvB m c) 28) ∗ Fam (sdB c) (sdD m c) 0 ∗ resA c ∗ aside' m c)) (fun _ => True) ?_ ?_
  · simp only [k0_part33_eq_skeleton, k0_part33_skel, semSignalWord, semWaitWord, smemLoad, smemLoadElt, Prog.lift, Prog.bind_op, Prog.bind_ret, Prog.pure_eq_ret, wp_deviceId]
    refine wait_recv m K c 25 rfl ?_
    refine wait_recv m K c 26 rfl ?_
    refine wait_recv m K c 27 rfl ?_
    exact done trivial
  rintro ⟨v1004, _⟩ -
  dsimp only
  refine seq (S' := iprop(Recs m K ∗ (Ow c 0 ∗ Fam (rvA c) (rvB m c) 30) ∗ Fam (sdB c) (sdD m c) 0 ∗ resA c ∗ aside' m c)) (fun _ => True) ?_ ?_
  · simp only [k0_part34_eq_skeleton, k0_part34_skel, semSignalWord, semWaitWord, smemLoad, smemLoadElt, Prog.lift, Prog.bind_op, Prog.bind_ret, Prog.pure_eq_ret, wp_deviceId]
    refine wait_recv m K c 28 rfl ?_
    refine wait_recv m K c 29 rfl ?_
    exact done trivial
  rintro _ -
  refine seq (S' := iprop(Recs m K ∗ (Ow c 0 ∗ Fam (sdB c) (sdD m c) 3) ∗ resFull m c ∗ outFull m c ∗ aside' m c ∗ rvAt c)) (fun _ => True) ?_ ?_
  · simp only [k0_part35_eq_skeleton, k0_part35_skel, semSignalWord, semWaitWord, smemLoad, smemLoadElt, Prog.lift, Prog.bind_op, Prog.bind_ret, Prog.pure_eq_ret, wp_deviceId]
    refine wait_recv m K c 30 rfl ?_
    refine wait_recv m K c 31 rfl ?_
    refine BIBase.Entails.trans (to_out m K c) ?_
    refine step_load_out m K c ?_
    refine BIBase.Entails.trans (to_res m K c) ?_
    refine step_dead_out m K c fun _ => ?_
    refine step_store_out m K c ?_
    refine BIBase.Entails.trans (to_send_waits m K c) ?_
    refine wait_send m K c 0 0 0 rfl ?_ ?_
    · exact k0_off4_eq c 0 0
    refine wait_send m K c 0 1 1 rfl ?_ ?_
    · exact k0_off4_eq c 0 1
    refine wait_send m K c 0 2 2 rfl ?_ ?_
    · exact k0_off4_eq c 0 2
    exact done trivial
  rintro _ -
  refine seq (S' := iprop(Recs m K ∗ (Ow c 0 ∗ Fam (sdB c) (sdD m c) 10) ∗ resFull m c ∗ outFull m c ∗ aside' m c ∗ rvAt c)) (fun _ => True) ?_ ?_
  · simp only [k0_part36_eq_skeleton, k0_part36_skel, semSignalWord, semWaitWord, smemLoad, smemLoadElt, Prog.lift, Prog.bind_op, Prog.bind_ret, Prog.pure_eq_ret, wp_deviceId]
    refine wait_send m K c 0 3 3 rfl ?_ ?_
    · exact k0_off4_eq c 0 3
    refine wait_send m K c 0 4 4 rfl ?_ ?_
    · exact k0_off4_eq c 0 4
    refine wait_send m K c 0 5 5 rfl ?_ ?_
    · exact k0_off4_eq c 0 5
    refine wait_send m K c 0 6 6 rfl ?_ ?_
    · exact k0_off4_eq c 0 6
    refine wait_send m K c 0 7 7 rfl ?_ ?_
    · exact k0_off4_eq c 0 7
    refine wait_send m K c 1 0 8 rfl ?_ ?_
    · exact k0_off4_eq c 1 0
    refine wait_send m K c 1 1 9 rfl ?_ ?_
    · exact k0_off4_eq c 1 1
    exact done trivial
  rintro _ -
  refine seq (S' := iprop(Recs m K ∗ (Ow c 0 ∗ Fam (sdB c) (sdD m c) 18) ∗ resFull m c ∗ outFull m c ∗ aside' m c ∗ rvAt c)) (fun _ => True) ?_ ?_
  · simp only [k0_part37_eq_skeleton, k0_part37_skel, semSignalWord, semWaitWord, smemLoad, smemLoadElt, Prog.lift, Prog.bind_op, Prog.bind_ret, Prog.pure_eq_ret, wp_deviceId]
    refine wait_send m K c 1 2 10 rfl ?_ ?_
    · exact k0_off4_eq c 1 2
    refine wait_send m K c 1 3 11 rfl ?_ ?_
    · exact k0_off4_eq c 1 3
    refine wait_send m K c 1 4 12 rfl ?_ ?_
    · exact k0_off4_eq c 1 4
    refine wait_send m K c 1 5 13 rfl ?_ ?_
    · exact k0_off4_eq c 1 5
    refine wait_send m K c 1 6 14 rfl ?_ ?_
    · exact k0_off4_eq c 1 6
    refine wait_send m K c 1 7 15 rfl ?_ ?_
    · exact k0_off4_eq c 1 7
    refine wait_send m K c 2 0 16 rfl ?_ ?_
    · exact k0_off4_eq c 2 0
    refine wait_send m K c 2 1 17 rfl ?_ ?_
    · exact k0_off4_eq c 2 1
    exact done trivial
  rintro _ -
  refine seq (S' := iprop(Recs m K ∗ (Ow c 0 ∗ Fam (sdB c) (sdD m c) 25) ∗ resFull m c ∗ outFull m c ∗ aside' m c ∗ rvAt c)) (fun _ => True) ?_ ?_
  · simp only [k0_part38_eq_skeleton, k0_part38_skel, semSignalWord, semWaitWord, smemLoad, smemLoadElt, Prog.lift, Prog.bind_op, Prog.bind_ret, Prog.pure_eq_ret, wp_deviceId]
    refine wait_send m K c 2 2 18 rfl ?_ ?_
    · exact k0_off4_eq c 2 2
    refine wait_send m K c 2 3 19 rfl ?_ ?_
    · exact k0_off4_eq c 2 3
    refine wait_send m K c 2 4 20 rfl ?_ ?_
    · exact k0_off4_eq c 2 4
    refine wait_send m K c 2 5 21 rfl ?_ ?_
    · exact k0_off4_eq c 2 5
    refine wait_send m K c 2 6 22 rfl ?_ ?_
    · exact k0_off4_eq c 2 6
    refine wait_send m K c 2 7 23 rfl ?_ ?_
    · exact k0_off4_eq c 2 7
    refine wait_send m K c 3 0 24 rfl ?_ ?_
    · exact k0_off4_eq c 3 0
    exact done trivial
  rintro _ -
  simp only [semSignalWord, semWaitWord, smemLoad, smemLoadElt, Prog.lift, Prog.bind_op, Prog.bind_ret, Prog.pure_eq_ret, wp_deviceId]
  refine wait_send m K c 3 1 25 rfl ?_ ?_
  · exact k0_off4_eq c 3 1
  refine wait_send m K c 3 2 26 rfl ?_ ?_
  · exact k0_off4_eq c 3 2
  refine wait_send m K c 3 3 27 rfl ?_ ?_
  · exact k0_off4_eq c 3 3
  exact done rfl

end Cert.AllToAll

end
-- ==== Proof.Obligation.lean ====
/-
The pipeline's proof data on a device and its body obligation: what the launch deals becomes what the body starts from.
-/
module

public import proofs.«01_k».proof.Proof.Body
public import proofs.«01_k».proof.Proof.Gen.KernelIdeal.Points

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## What a device starts from -/

section Start
variable (c : Dev nD)

/-- Of the exchange's ghost state what is device `c`'s alone: the open rounds of its cells and the tokens of the duties it
    pays (those of its own copies and sends, a signal to every device's barrier, a transfer to every device). -/
def linear : sProp 𝕄 :=
  iprop(bar0 c ∗ bigSep Finset.univ (fun n => at0 c n)
    ∗ bigSep Finset.univ (fun q => dutyTok ER (barCell (shift c q)) 0 c)
    ∗ bigSep Finset.univ (fun t => tok (peer c t) (rN (tslot c t)))
    ∗ tok c xN ∗ bigSep Finset.univ (fun j => tok c (wN j)) ∗ bigSep Finset.univ (fun s => tok c (sN s)))

/-- The credits the launch deals device `c`: its barrier's and its receive cells'. -/
def credits : sProp 𝕄 := iprop(cred (tallyAt (barCell c) () 31) ∗ bigSep Finset.univ fun p => cred (tallyAt (ownCell c (rN p)) () NB))

def start : sProp 𝕄 := iprop((∃ K, Recs m K ∗ linear c) ∗ credits c ∗ args m c)

/-- What the body starts from besides the staging buffers. -/
def Φ₀ : sProp 𝕄 := iprop(start m c ∗ bufs c)

/-- The lent columns of the landing buffer with the barrier duties' tokens: what the signals pay with. -/
theorem signals_begin (f : Buf (Elt F) ((c : Thread nD τ).loc cc0_scratch3)) :
    iprop(bigSep Finset.univ (fun q => dutyTok ER (barCell (shift c q)) 0 c) ∗ ((c : Thread nD τ).loc cc0_scratch3 ↦{fullShare} f))
      ⊢ iprop(Fam (sgA (F := F) c) sgB 1 ∗ ∃ f, outPts c c f) := by
  have h0 : (shift c 0) = c := Fin.ext (by have := dev_lt c; show (c.val + 0) % 32 = c.val; omega)
  have hF : Fam (sgA (F := F) c) sgB 1 = iprop(emp ∗ bigSep (Finset.univ.erase (0 : Fin 32)) (fun q => iprop(dutyTok ER (barCell (shift c q)) 0 c ∗ barPay (shift c q) c))) := by
    unfold Fam
    rw [split_at (0 : Fin 32), if_pos (by decide)]
    refine congrArg (fun P : sProp 𝕄 => iprop(emp ∗ P)) (bigSep_congr fun q hq => ?_)
    have hne : q.val ≠ 0 := fun h => (Finset.mem_erase.mp hq).1 (Fin.ext h)
    rw [if_neg (by omega)]
    unfold sgA
    rw [if_neg hne]
  have hp (q : Fin 32) : iprop(dutyTok ER (barCell (shift c q)) 0 c ∗ outPts c (shift c q) f) ⊢ iprop(dutyTok ER (barCell (shift c q)) 0 c ∗ barPay (F := F) (shift c q) c) := by
    iintro ⟨H, Ho⟩
    isplitl [H]; · iexact H
    unfold barPay; iexists f; iexact Ho
  rw [out_blocks, bigSep_univ_equiv (walk c) (fun d => outPts c d f), ← bigSep_sep', split_at (0 : Fin 32), hF]
  have hm : bigSep (Finset.univ.erase (0 : Fin 32)) (fun q => iprop(dutyTok ER (barCell (shift c q)) 0 c ∗ outPts c (walk c q) f))
      ⊢ bigSep (Finset.univ.erase (0 : Fin 32)) (fun q => iprop(dutyTok ER (barCell (shift c q)) 0 c ∗ barPay (F := F) (shift c q) c)) := bigSep_mono fun q _ => hp q
  iintro ⟨⟨-, Ho⟩, H⟩
  isplitl [H]
  · isplitr; · iempintro
    iapply hm; iexact H
  iexists f
  rw [show walk c 0 = c from h0]
  iexact Ho

/-- The chunks of `w` with their copies' tokens. -/
theorem w_begin (f : Buf (Elt F) ((c : Thread nD τ).loc cc0_scratch1)) :
    iprop(((c : Thread nD τ).loc cc0_scratch1 ↦{fullShare} f) ∗ ((c : Thread nD τ).loc main_arg1 ↦{fullShare} m ((c : Thread nD τ).loc main_arg1))
        ∗ bigSep Finset.univ (fun j => tok c (wN j)) ∗ bigSep Finset.univ (fun j => at0 c (wN j)))
      ⊢ Fam (wA m c) (wB c) 0 := by
  rw [Fam_zero, w_blocks, wSrc_blocks, bigSep_univ_equiv (chunks c) (fun k => wPts c k f), bigSep_univ_equiv (chunks c) (fun k => wSrc m c k),
    ← bigSep_sep', ← bigSep_sep', ← bigSep_sep']
  have h (j : Fin 4) : iprop(wPts c (chunk c j) f ∗ wSrc m c (chunk c j) ∗ tok c (wN j) ∗ at0 c (wN j)) ⊢ wA m c j := by
    unfold wA
    iintro ⟨H1, H2⟩
    isplitl [H1]; · iexists f; iexact H1
    iexact H2
  exact bigSep_mono fun j _ => h j

/-- Everything a transfer needs of its own. -/
theorem transfers_begin :
    iprop(bigSep Finset.univ (fun s => tok c (sN s)) ∗ bigSep Finset.univ (fun t => tok (peer c t) (rN (tslot c t))) ∗ bigSep Finset.univ (fun s => at0 c (sN s)))
      ⊢ bigSep Finset.univ (sdT (F := F) c) := by
  rw [← by_slot c (fun s => tok c (sN s)), ← by_slot c (fun s => at0 c (sN s)), ← bigSep_sep', ← bigSep_sep']
  exact BIBase.Entails.rfl

theorem acc_begin (f : Buf (Elt F) ((c : Thread nD τ).loc cc0_scratch2)) :
    ((c : Thread nD τ).loc cc0_scratch2 ↦{fullShare} f) ⊢ bigSep Finset.univ (chkA (F := F) c) := by
  rw [acc_blocks, bigSep_univ_equiv (chunks c) (fun k => chkPts c k f)]
  have h (j : Fin 4) : chkPts c (chunk c j) f ⊢ chkA (F := F) c j := by
    unfold chkA
    iintro H
    iexists f
    iexact H
  exact bigSep_mono fun j _ => h j

theorem begin_body : iprop(linear c ∗ credits c ∗ args m c ∗ bufs c ∗ Ow c (O₀ c) ∗ scPts m c ∗ resA c) ⊢ bodyIn m c := by
  unfold linear credits args bufs bodyIn later Sg xA rvA xPts xSrc O₀
  rw [own_parts (fun n => at0 (F := F) c n), bigSep_sep']
  iintro ⟨⟨Hb, ⟨Hx0, Hw0, Hs0, Hr0⟩, Htb, Htr, Htx, Htw, Hts⟩, ⟨Hcb, Hcr⟩, ⟨Ha0, Ha1⟩, ⟨⟨%f0, H0⟩, ⟨%f1, H1⟩, ⟨%f2, H2⟩, ⟨%f3, H3⟩⟩, HO, Hsc, Hres⟩
  ihave Hsig := (signals_begin c f3) $$ [Htb H3]
  · isplitl [Htb] <;> iassumption
  icases Hsig with ⟨Hsig, Hown⟩
  isplitl [H0 Ha0 Htx Hx0]
  · isplitl [H0]; · iexists f0; iexact H0
    isplitl [Ha0]; · iexact Ha0
    isplitl [Htx] <;> iassumption
  isplitl [H1 Ha1 Htw Hw0]
  · iapply (w_begin m c f1)
    isplitl [H1]; · iexact H1
    isplitl [Ha1]; · iexact Ha1
    isplitl [Htw] <;> iassumption
  isplitl [HO Hsig]
  · isplitl [HO] <;> iassumption
  isplitl [Hcb Hb]
  · isplitl [Hcb] <;> iassumption
  isplitl [Hsc]; · iexact Hsc
  isplitl [Hres]; · iexact Hres
  isplitl [Hown]; · iexact Hown
  isplitl [Hts Htr Hs0]
  · iapply (transfers_begin c)
    isplitl [Hts]; · iexact Hts
    isplitl [Htr] <;> iassumption
  isplitl [Hcr Hr0]
  · isplitl [Hcr] <;> iassumption
  iapply (acc_begin c f2)
  iexact H2

end Start

/-! ## The pipeline's proof data: one point, two staged inputs and the staged result -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => resC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem windows (Φ : Fin cfg0.W → sProp 𝕄) : bigSep Finset.univ Φ = iprop(Φ (0 : Fin 3) ∗ Φ (1 : Fin 3) ∗ Φ (2 : Fin 3)) := bigSep_W0 Φ

theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer with given contents. -/
def held (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def pointIn (c : Dev nD) : sProp 𝕄 :=
  iprop(Φ₀ m c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
def pointOut (c : Dev nD) : sProp 𝕄 :=
  iprop(Φ₁ m c ∗ (dats m ρ 0 c).owesAt () t0_0.succ ∗ held c cc0_stg0_0 (stg0 m c) ∗ held c cc0_stg1_0 (stg1 m c) ∗ held c cc0_stg2_0 (resC m c))

theorem point_out (c : Dev nD) : iprop(Φ₁ m c ∗ Ow c 0 ∗ scPts m c ∗ resFull m c) ⊢ pointOut m ρ c := by
  unfold pointOut Ow scPts held Dat.owesAt Pipeline.owesWithin
  rw [show (dats m ρ 0 c).owed t0_0.succ = 0 from rfl]
  iintro ⟨HΦ, ⟨%W, HO⟩, ⟨H0, H1⟩, H2⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

theorem point_in (c : Dev nD) : pointIn m ρ c ⊢ iprop(∃ K, Recs m K ∗ bodyIn m c) := by
  unfold pointIn Φ₀ start held Dat.owesAt Pipeline.owesWithin
  rw [show (dats m ρ 0 c).owed t0_0.castSucc = O₀ c from rfl]
  iintro ⟨⟨⟨⟨%K, HR, HL⟩, HC, HA⟩, HB⟩, ⟨%W, %hW, HO⟩, ⟨%d0, %g0, %hg0, H0⟩, ⟨%d1, %g1, %hg1, H1⟩, ⟨%d2, %g2, %hg2, H2⟩⟩
  have h0 : g0 = stg0 m c := by rw [hg0]; unfold Dat.before; rw [if_pos (fetch0_0 t0_0)]; rfl
  have h1 : g1 = stg1 m c := by rw [hg1]; unfold Dat.before; rw [if_pos (fetch0_1 t0_0)]; rfl
  subst h0 h1
  iexists K
  isplitl [HR]; · iexact HR
  iapply (begin_body m c)
  isplitl [HL]; · iexact HL
  isplitl [HC]; · iexact HC
  isplitl [HA]; · iexact HA
  isplitl [HB]; · iexact HB
  isplitl [HO]; · unfold Ow; iexists W; iexact HO
  isplitl [H0 H1]
  · unfold scPts; isplitl [H0] <;> iassumption
  unfold resA; iexists g2; iexact H2

theorem point_run (c : Dev nD) :
    pointIn m ρ c ⊢ Wp c (cc0_body (Memref.whole main_arg0) (Memref.isWhole_whole _) (Memref.whole main_arg1) (Memref.isWhole_whole _)
        (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7) (fun _ => pointOut m ρ c) := by
  refine BIBase.Entails.trans (point_in m ρ c) (exists_elim fun K => ?_)
  refine BIBase.Entails.trans (body_run m K c) ?_
  exact wp_mono _ _ _ fun _ => point_out m ρ c

set_option maxRecDepth 16000 in
/-- The body at the one point, as the pipeline asks for it. -/
theorem body_obligation (c : Dev nD) : BodyObligation (dats (F := F) m ρ 0 c) (defs₀ (F := F)) 𝒱₀ () Set.univ := fun t => by
  rw [fin_N0 t]
  rw [windows, windows]
  simp only [owns_staged]
  exact point_run m ρ c

end Cert.AllToAll

end
-- ==== Proof.Deal.lean ====
/-
What the launch deals: the cells and tokens minted, every cell's invariant made, the tokens given to the devices that
pay the duties, the credit of the barrier and receive cells.
-/
module

public import proofs.«01_k».proof.Proof.Obligation
public import Idealize.ShloMosaic.Lib.Pipeline.CollectiveSegs

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens minted at launch -/

theorem kcell_injective : Function.Injective (kcell : Dev nD × Option (Fin 69) → GSem nD τ sig) := by
  rintro ⟨c, k⟩ ⟨c', k'⟩ h
  have h1 : c = c' := congrArg (fun g : GSem nD τ sig => g.1.1) h
  have h2 : csem k = csem k' := congrArg Prod.snd h
  subst h1
  rcases k with _ | n <;> rcases k' with _ | n'
  · rfl
  · cases h2
  · cases h2
  · have h3 : n.val + 3 = n'.val + 3 := congrArg (fun q : DmaSem sig => q.val) (SemLoc.dma.inj h2)
    have : n = n' := Fin.ext (Nat.add_right_cancel h3)
    rw [this]

def exCells : Finset (GSem nD τ sig) := Finset.univ.map ⟨kcell, kcell_injective⟩

/-- The duty of every device at a device's barrier, the one duty of each of its own cells. -/
def tokOf : Dev nD × (Dev nD ⊕ Fin 69) → GSem nD τ sig × ℕ × Dev nD
  | (c, .inl d) => (barCell c, 0, d)
  | (c, .inr n) => (ownCell c n, 0, 0)

theorem tokOf_injective : Function.Injective tokOf := by
  rintro ⟨c, j⟩ ⟨c', j'⟩ h
  rcases j with d | n <;> rcases j' with d' | n'
  · have h1 := kcell_injective (congrArg Prod.fst h)
    have h2 : d = d' := congrArg (fun x : GSem nD τ sig × ℕ × Dev nD => x.2.2) h
    rw [show c = c' from congrArg Prod.fst h1, h2]
  · have h1 := kcell_injective (congrArg Prod.fst h)
    exact absurd (congrArg Prod.snd h1) (by simp)
  · have h1 := kcell_injective (congrArg Prod.fst h)
    exact absurd (congrArg Prod.snd h1) (by simp)
  · have h1 := kcell_injective (congrArg Prod.fst h)
    rw [show c = c' from congrArg Prod.fst h1, show n = n' from Option.some.inj (congrArg Prod.snd h1)]

def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- The tokens of a device's own cells. -/
def toks (c : Dev nD) : sProp 𝕄 :=
  iprop(bigSep Finset.univ (fun d => dutyTok ER (barCell c) 0 d) ∗ bigSep Finset.univ (fun n => tok c n))

def G (c : Dev nD) : sProp 𝕄 :=
  iprop((bigSep Finset.univ fun k => roundState ER (sched m) (kcell (c, k)) 0) ∗ (bigSep Finset.univ fun k => reached ER (kcell (c, k)) 0)
    ∗ (bigSep Finset.univ fun k => atPos ER (kcell (c, k)) 0 ∅ 0) ∗ toks c)

def G' (c : Dev nD) : sProp 𝕄 := iprop(∃ K, bigSep Finset.univ (cellRec m K) ∗ linear c)

theorem cells_split (Φ : GSem nD τ sig → sProp 𝕄) :
    bigSep exCells Φ = bigSep Finset.univ fun c : Dev nD => bigSep Finset.univ fun k : Option (Fin 69) => Φ (kcell (c, k)) := by
  unfold exCells; rw [bigSep_map, bigSep_univ_prod]; rfl

theorem toks_split : bigSep exToks (fun x => (dutyTok ER x.1 x.2.1 x.2.2 : sProp 𝕄)) = bigSep Finset.univ fun c : Dev nD => toks c := by
  unfold exToks; rw [bigSep_map, bigSep_univ_prod]
  exact bigSep_congr fun c _ => (bigSep_univ_sum _).trans rfl

theorem fund_exchange : BI.own (ER (initOf exCells exToks)) ⊢ (|==> bigSep Finset.univ (G m) : sProp 𝕄) := by
  iintro HX
  imod (Rounds.fund ER (sched m) exCells exToks) $$ HX with ⟨Hst, Hr, Hat, Htok⟩
  imodintro
  ihave Hst' := (Entails.of_eq (cells_split fun g => roundState ER (sched m) g 0)) $$ Hst
  ihave Hr' := (Entails.of_eq (cells_split fun g => reached ER g 0)) $$ Hr
  ihave Hat' := (Entails.of_eq (cells_split fun g => atPos ER g 0 ∅ 0)) $$ Hat
  ihave Htok' := (Entails.of_eq toks_split) $$ Htok
  unfold G; simp only [bigSep_sep']
  isplitl [Hst']; · iexact Hst'
  isplitl [Hr']; · iexact Hr'
  isplitl [Hat']; · iexact Hat'
  iexact Htok'

/-! ## Every cell's invariant made -/

theorem over_option (Φ : Option (Fin 69) → sProp 𝕄) :
    bigSep Finset.univ Φ = iprop(Φ none ∗ bigSep Finset.univ fun n => Φ (some n)) := by
  rw [bigSep_univ_at Φ none]
  refine congrArg (fun P : sProp 𝕄 => iprop(Φ none ∗ P)) ?_
  have e : (Finset.univ.erase none : Finset (Option (Fin 69))) = Finset.univ.map Function.Embedding.some := by
    ext k; rcases k with _ | n <;> simp
  rw [e, bigSep_map]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun n => semVal (ownCell c n) 0 := rfl

theorem sems_all (c : Dev nD) : (bigSep Finset.univ fun k => semVal (kcell (c, k)) 0 : sProp 𝕄) = zeroes c := over_option _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => reached ER (kcell (c, k)) 0) ∗ (bigSep Finset.univ fun k => atPos ER (kcell (c, k)) 0 ∅ 0) ∗ toks c) := by
  have hinv : iprop((bigSep Finset.univ fun k => semVal (kcell (c, k)) 0) ∗ bigSep Finset.univ fun k => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [ownSems0_eq, unscopedSems0_eq]
  rw [sems_all] at hinv
  unfold G
  iintro ⟨Hos, Hus, Hst, Hr, Hat, Htok⟩
  imod hinv $$ [Hos Hus Hst] with Hinv
  · isplitl [Hos Hus]
    · unfold zeroes; isplitl [Hus] <;> iassumption
    iexact Hst
  imodintro
  isplitl [Hinv]; · iexact Hinv
  isplitl [Hr]; · iexact Hr
  isplitl [Hat] <;> iassumption

/-! ## The tokens dealt to who pays the duties -/

theorem deal_bar : (bigSep Finset.univ fun c : Dev nD => bigSep Finset.univ fun d => (dutyTok ER (barCell c) 0 d : sProp 𝕄))
    = bigSep Finset.univ fun c : Dev nD => bigSep Finset.univ fun q => dutyTok ER (barCell (shift c q)) 0 c := by
  rw [bigSep_univ_comm]
  exact bigSep_congr fun c _ => bigSep_univ_equiv (walk c) _

theorem deal_recv : (bigSep Finset.univ fun c : Dev nD => bigSep Finset.univ fun p => (tok c (rN p) : sProp 𝕄))
    = bigSep Finset.univ fun c : Dev nD => bigSep Finset.univ fun t => tok (peer c t) (rN (tslot c t)) := by
  rw [bigSep_congr (s := Finset.univ) fun (c : Dev nD) _ => bigSep_univ_equiv (sources c).symm fun p => (tok c (rN p) : sProp 𝕄), bigSep_univ_comm]
  exact bigSep_congr fun c _ => bigSep_univ_equiv (sends c) _

theorem deal : iprop((bigSep Finset.univ fun c : Dev nD => bigSep Finset.univ fun k => atPos ER (kcell (c, k)) 0 ∅ 0) ∗ bigSep Finset.univ fun c : Dev nD => toks c)
    ⊢ (bigSep Finset.univ fun c : Dev nD => linear c : sProp 𝕄) := by
  unfold toks linear
  simp only [over_option, own_parts (fun n => tok (F := F) _ n), bigSep_sep']
  rw [deal_bar, deal_recv]
  iintro ⟨⟨Hb, Ho⟩, Ht, Hx, Hw, Hs, Hr⟩
  isplitl [Hb]; · iexact Hb
  isplitl [Ho]; · iexact Ho
  isplitl [Ht]; · iexact Ht
  isplitl [Hr]; · iexact Hr
  isplitl [Hx]; · iexact Hx
  isplitl [Hw] <;> iassumption

theorem regroup :
    (bigSep Finset.univ fun c : Dev nD => iprop((bigSep Finset.univ fun k => iprop(∃ κ : ℕ, cellInv ER (sched m) κ (kcell (c, k))))
          ∗ (bigSep Finset.univ fun k => reached ER (kcell (c, k)) 0) ∗ (bigSep Finset.univ fun k => atPos ER (kcell (c, k)) 0 ∅ 0) ∗ toks c) : sProp 𝕄)
      ⊢ bigSep Finset.univ (G' m) := by
  rw [bigSep_sep', bigSep_sep', bigSep_sep', ← bigSep_univ_prod (fun ck : Dev nD × Option (Fin 69) => iprop(∃ κ : ℕ, cellInv ER (sched m) κ (kcell ck))),
    ← bigSep_univ_prod (fun ck : Dev nD × Option (Fin 69) => (reached ER (kcell ck) 0 : sProp 𝕄))]
  iintro ⟨HI, HR, Hat, Htok⟩
  ihave HK := (BI.bigSep_exists_pi Finset.univ (fun (ck : Dev nD × Option (Fin 69)) (κ : ℕ) => (cellInv ER (sched m) κ (kcell ck) : sProp 𝕄))) $$ HI
  icases HK with ⟨%K, HI⟩
  ihave HL := (deal (F := F)) $$ [Hat Htok]
  · isplitl [Hat] <;> iassumption
  have hrec : iprop(bigSep Finset.univ (fun ck => (cellInv ER (sched m) (K ck) (kcell ck) : sProp 𝕄)) ∗ bigSep Finset.univ (fun ck => (reached ER (kcell ck) 0 : sProp 𝕄)))
      ⊢ bigSep Finset.univ (cellRec m K) := by
    rw [← bigSep_sep']; exact BIBase.Entails.rfl
  ihave HC := hrec $$ [HI HR]
  · isplitl [HI] <;> iassumption
  have hone (c : Dev nD) : iprop(bigSep Finset.univ (cellRec m K) ∗ linear c) ⊢ G' m c := by
    unfold G'
    iintro H
    iexists K
    iexact H
  iapply (with_all hone)
  isplitl [HC] <;> iassumption

/-- Every device's semaphores and dealt ghost state made into invariants, the tokens redistributed, at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq {a b : Dev nD × Option (Fin 69)} : kcell a = kcell b ↔ a = b := kcell_injective.eq_iff

theorem owed_bar (d c : Dev nD) : O₀ d (barCell c) () = ∑ i : Fin 32 with 1 ≤ i.val, if d = source c i then 1 else 0 := by
  unfold O₀ owedR owedB
  rw [Pi.add_apply, Finsupp.add_apply, Finset.sum_apply, Finset.sum_apply, Finsupp.finset_sum_apply, Finsupp.finset_sum_apply]
  rw [Finset.sum_eq_zero fun i _ => by
    rw [tallyAt_apply, if_neg fun h => by have := kcell_injective h.1; simp at this], Nat.zero_add]
  refine Finset.sum_congr rfl fun i _ => ?_
  rw [tallyAt_apply]
  refine if_congr ?_ rfl rfl
  constructor
  · rintro ⟨h, -⟩
    have h1 : c = shift d i := congrArg Prod.fst (kcell_injective h)
    rw [h1]
    exact Fin.ext (by have := dev_lt d; have := i.isLt; simp only [source, shift]; omega)
  · rintro rfl
    refine ⟨?_, rfl⟩
    rw [show shift (source c i) i = c from Fin.ext (by have := dev_lt c; have := i.isLt; simp only [source, shift]; omega)]

theorem owed_recv (d c : Dev nD) (p : Fin 32) : O₀ d (ownCell c (rN p)) () = if d = source c p then NB else 0 := by
  unfold O₀ owedR owedB
  rw [Pi.add_apply, Finsupp.add_apply, Finset.sum_apply, Finset.sum_apply, Finsupp.finset_sum_apply, Finsupp.finset_sum_apply]
  rw [Finset.sum_eq_zero (s := Finset.univ.filter fun i : Fin 32 => 1 ≤ i.val) fun i _ => by
    rw [tallyAt_apply, if_neg fun h => by have := kcell_injective h.1; simp at this], Nat.add_zero]
  have e (i : Fin 32) : (tallyAt (destCell d i) () NB : CellTallies nD τ sig Unit) (ownCell c (rN p)) ()
      = (fun r : Dev nD => if r = c ∧ slot d r = p then NB else 0) (sends d i) := by
    rw [tallyAt_apply]
    refine if_congr ?_ rfl rfl
    constructor
    · rintro ⟨h, -⟩
      have h0 := kcell_injective h
      have h1 : c = peer d i := congrArg Prod.fst h0
      have h2 : rN p = rN (slot d (peer d i)) := Option.some.inj (congrArg Prod.snd h0)
      have h3 : 37 + p.val = 37 + (slot d (peer d i)).val := congrArg Fin.val h2
      exact ⟨h1.symm, Fin.ext (Nat.add_left_cancel h3).symm⟩
    · rintro ⟨h1, h2⟩
      have h1 : peer d i = c := h1
      have h2 : slot d (peer d i) = p := h2
      refine ⟨?_, rfl⟩
      show _ = ownCell (peer d i) (rN (slot d (peer d i)))
      rw [h2, h1]
  rw [Finset.filter_true_of_mem fun i _ => Nat.zero_le _, Finset.sum_congr rfl fun i _ => e i,
    Equiv.sum_comp (sends d) fun r : Dev nD => if r = c ∧ slot d r = p then NB else 0,
    Finset.sum_eq_single c (fun r _ hr => if_neg fun h => hr h.1) (fun h => absurd (Finset.mem_univ _) h)]
  refine if_congr ?_ rfl rfl
  constructor
  · rintro ⟨-, h⟩; rw [← h, source_slot]
  · rintro rfl
    exact ⟨rfl, (sources c).left_inv p⟩

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => (Finset.sum_ite_eq' Finset.univ (source c i) fun _ => 1).trans (if_pos (Finset.mem_univ _))]
  rfl

theorem launch_recv (c : Dev nD) (p : Fin 32) :
    tallyOn (ownCell c (rN p)) (launchCredit (Pipeline.owing O₀) 0 (ownCell c (rN p))) = (tallyAt (ownCell c (rN p)) () NB : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_ite_eq' Finset.univ (source c p) fun _ => NB, if_pos (Finset.mem_univ _)]

def recvSem : Fin 32 ↪ SemLoc sig := ⟨fun p => osem (rN p), fun p p' h => Fin.ext (by
  have h1 : 37 + p.val + 3 = 37 + p'.val + 3 := congrArg (fun q : DmaSem sig => q.val) (SemLoc.dma.inj h)
  omega)⟩

theorem creds (c : Dev nD) : (Pipeline.launchCred O₀ c : sProp 𝕄) ⊢ credits c := by
  unfold Pipeline.launchCred credits
  rw [bigSep_univ_at _ (SemLoc.reg barS), launch_bar]
  refine sep_mono_right ?_
  have h : (bigSep (Finset.univ.map recvSem) fun sm => (cred (tallyOn ((c : Thread nD τ), sm) (launchCredit (Pipeline.owing O₀) 0 ((c : Thread nD τ), sm))) : sProp 𝕄))
      = bigSep Finset.univ fun p => cred (tallyAt (ownCell c (rN p)) () NB) := by
    rw [bigSep_map]
    exact bigSep_congr fun p _ => congrArg cred (launch_recv c p)
  rw [← h]
  refine bigSep_subset fun sm hm => ?_
  obtain ⟨p, -, rfl⟩ := Finset.mem_map.mp hm
  exact Finset.mem_erase.mpr ⟨fun h => (by cases h), Finset.mem_univ _⟩

end Cert.AllToAll

end
-- ==== Proof.Launched.lean ====
/-
The launch: from any memory the 32 devices run to the end, their arrays at the computed contents, all counters zero.
-/
module

public import proofs.«01_k».proof.Proof.Deal

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hl : (levAts L lv : sProp 𝕄) ⊢ Levs := by unfold Levs; exact BIBase.Entails.rfl
  have ha : (Pipeline.unscopedRestP Pipeline.Prefetch.none cfg0.spec c (fun b => m ((c : Thread nD τ).loc b)) : sProp 𝕄) ⊢ args m c := by
    rw [Pipeline.unscopedRestP_none, unscopedRest0_eq]; exact BIBase.Entails.rfl
  iintro ⟨Ha, Hlev, Hcr, -, HG⟩
  ihave Hc := (creds (F := F) c) $$ Hcr
  ihave Ha' := ha $$ Ha
  ihave Hl := hl $$ Hlev
  imodintro
  unfold start G'
  icases HG with ⟨%K, HC, HL⟩
  isplitl
  · isplitl [HC HL Hl]
    · iexists K
      isplitl [HC Hl]
      · unfold Recs; isplitl [Hl] <;> iassumption
      iexact HL
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  have hb : (Pipeline.scopedRest cfg0.spec c : sProp 𝕄) ⊢ bufs c := by rw [scopedRest0_eq]; exact BIBase.Entails.rfl
  rw [show (dats m ρ 0 c).Φ 0 = Φ₀ m c from rfl]
  unfold Φ₀
  iintro ⟨Hs, -, Hr⟩
  isplitl [Hs]; · iexact Hs
  iapply hb
  iexact Hr

/-- What a device is read back from: its barrier's zero and the two arrays the kernel reads by itself. -/
def leftover (c : Dev nD) : sProp 𝕄 := iprop(unscopedSems0 c ∗ args m c)

theorem phi1_exit (c : Dev nD) :
    (dats m ρ 0 c).Φ (Fin.last cfg0.N) ⊢ iprop(leftover m c ∗ Pipeline.ownSems0 osem c ∗ Pipeline.scopedRest cfg0.spec c) := by
  have hb : bufs c ⊢ (Pipeline.scopedRest cfg0.spec c : sProp 𝕄) := by rw [scopedRest0_eq]; exact BIBase.Entails.rfl
  rw [show (dats m ρ 0 c).Φ (Fin.last cfg0.N) = Φ₁ m c from rfl, ownSems0_eq]
  unfold Φ₁ leftover zeroes
  rw [unscopedSems0_eq]
  iintro ⟨Hb, Ha, HzB, Hz⟩
  isplitl [HzB Ha]
  · isplitl [HzB] <;> iassumption
  isplitl [Hz]; · iexact Hz
  iapply hb
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read back: the barrier counter is zero, the two arrays are as at launch. -/
def Back (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_arg1) = m ((c : Thread nD τ).loc main_arg1)

theorem read_back (c : Dev nD) (s' : Phys nD τ sig (Elt F)) : iprop(leftover m c ∗ emp ∗ SI s') ⊢ |={Set.univ}=> iprop(⌜Back m c s'.mem⌝ ∗ SI s' : sProp 𝕄) := by
  unfold leftover args
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ h0, Buf.eq_of_forall_mem_univ h1⟩
  iexact HSI

/-! ## The run -/

/-- What the array of window `w` holds in the end. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg0) = m ((c : Thread nD τ).loc main_arg0) ∧ r.2.mem ((c : Thread nD τ).loc main_arg1) = m ((c : Thread nD τ).loc main_arg1)

set_option maxRecDepth 100000 in
/-- On 32 devices, for any float values, from any memory with zero counters: every weakly fair execution ends, each
    device's result array at the computed contents, `x` and `w` unchanged, every semaphore counter at zero. -/
theorem run_final : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := leftover m) (Z := fun _ => iprop(emp))
    (hX := start_intro m ρ) (hin := phi0_intro m ρ) (hout := phi1_exit m ρ)
    (QY := Back m) (hY := read_back m)
    (hQ := fun _ h hs => ⟨fun c => ⟨fun w => (h c).1 w, (h c).2.2.2⟩, sem_eq_zero hs fun c => (h c).2.2.1⟩)

theorem final_in0 (c : Dev nD) : finalA m ρ c (0 : Fin 3) = m ((c : Thread nD τ).loc main_arg2) := (dats (F := F) m ρ 0 c).arrAt_in (0 : Fin 3) rfl _
theorem final_in1 (c : Dev nD) : finalA m ρ c (1 : Fin 3) = m ((c : Thread nD τ).loc main_arg3) := (dats (F := F) m ρ 0 c).arrAt_in (1 : Fin 3) rfl _

/-- The run, array by array. -/
theorem run_main : θ_run defs (onTc (τ := τ) (main (F := F))) (s₀ m ρ) (fun r => (∀ c : Dev nD,
      r.2.mem ((c : Thread nD τ).loc main_v1) = finalA m ρ c (2 : Fin 3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨(h.1 c).1 (2 : Fin 3), (h.1 c).2.1, (h.1 c).2.2, ((h.1 c).1 (0 : Fin 3)).trans (final_in0 m ρ c), ((h.1 c).1 (1 : Fin 3)).trans (final_in1 m ρ c)⟩, h.2⟩) (run_final m ρ)

end Cert.AllToAll

end
-- ==== Proof.Value.lean ====
/-
What the kernel's result array holds over the extended reals, entry by entry, and the reference's result beside it.
-/
module

public import proofs.«01_k».proof.Proof.Launched
public import proofs.«01_k».proof.Proof.Gen.ReferenceIdeal.Run
public import Idealize.ShloMosaic.Lib.MatmulPlain
public import Idealize.ShloMosaic.Lib.Pipeline.Value
public import Idealize.ShloMosaic.Lib.ValueLayoutCasts
public import Idealize.ShloMosaic.Lib.Layout
public import Idealize.ShloMosaic.Lib.Quiescent

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx
open scoped BigOperators

/-! ## The result array -/

section Final
variable (ρ : Dev nD → PrngReg)

/-- An element of the result window's one block is the element of the array at the same coordinates. -/
theorem res_emb (y : S4096x64.Idx) : ((cfg0.win 2).blk t0_0).view.emb y = y :=
  funext fun a => Fin.ext (win0_2.rect_emb_val_of_index_zero t0_0 a rfl y)

/-- The one block of the result window is the whole array. -/
theorem res_read (G : S4096x64.Idx → Elt F .f32) : ((cfg0.win 2).blk t0_0).view.read (Elt F) G = G :=
  funext fun y => congrArg G (res_emb y)

theorem res_flushed (c : Dev nD) (t : Fin cfg0.N) : (dats m ρ 0 c).flushed 2 t = ((cfg0.win 2).blk t).view.read (Elt F) (resC m c) := by
  obtain rfl := fin_N0 t
  refine Eq.trans ?_ (res_read (resC m c)).symm
  rfl

theorem res_mem (i : S4096x64.Idx) : i ∈ ((cfg0.win 2).blk t0_0).view.set := by
  have h := ((cfg0.win 2).blk t0_0).view.emb_mem_set i
  rw [res_emb] at h
  exact h

/-- The result array ends at the last payload of the landing buffer. -/
theorem final_res (c : Dev nD) : finalA m ρ c 2 = resC m c :=
  (dats m ρ 0 c).arrAt_eq_of_cover 2 (resC m c) (fun t _ => res_flushed m ρ c t) fun i => ⟨t0_0, flush0_2 _, res_mem i⟩

end Final

/-! ## The kernel's entry over the extended reals -/

section Entry
variable (M : (ℓ : Loc nD τ sig) → Buf (Elt Ideal) ℓ)

theorem zero_word : (Ideal.ofBits .f32 0x00000000#32 : EReal) = 0 := by simp [Ideal.ofBits, Ideal.ieee]

/-- One entry of the product of two matrices, scaled by `s`: what both programs compute. -/
def entry {R N : ℕ} (X : FVec Ideal ⟨2, ![R, 4096]⟩ .f32) (W : FVec Ideal ⟨2, ![4096, N]⟩ .f32) (s : EReal) (r : Fin R) (n : Fin N) : EReal :=
  (∑ k : Fin 4096, X (ix2 r k) * W (ix2 k n)) * s

/-- Entries agree where the row, the column and the scale they read agree. -/
theorem entry_congr {R N R' N' : ℕ} {X : FVec Ideal ⟨2, ![R, 4096]⟩ .f32} {W : FVec Ideal ⟨2, ![4096, N]⟩ .f32} {s : EReal} {r : Fin R} {n : Fin N}
    {X' : FVec Ideal ⟨2, ![R', 4096]⟩ .f32} {W' : FVec Ideal ⟨2, ![4096, N']⟩ .f32} {s' : EReal} {r' : Fin R'} {n' : Fin N'}
    (hX : ∀ k : Fin 4096, X (ix2 r k) = X' (ix2 r' k)) (hW : ∀ k : Fin 4096, W (ix2 k n) = W' (ix2 k n')) (hs : s = s') :
    entry X W s r n = entry X' W' s' r' n' := by
  unfold entry
  rw [hs]
  exact congrArg (· * s') (Finset.sum_congr rfl fun k _ => congrArg₂ (· * ·) (hX k) (hW k))

/-- A block of the product, as the kernel computes it, read at an index: the entry at the transposed coordinates. -/
theorem block_apply (a b : EReal) (x : FVec Ideal S128x4096 .f32) (w : FVec Ideal S4096x512 .f32) (r : Fin 128) (n : Fin 512) :
    k0_pay3 (F := Ideal) (k0_pay2 (F := Ideal) a b x w) (ix2 n r) = entry x w (a * b) r n := by
  unfold k0_pay3
  rw [shapeCast_self]
  unfold k0_pay2
  refine Eq.trans (b := transpose (s := S128x512) S512x128 [1, 0]
    (mulf (F := Ideal) (φ := .f32) (matmul (DotDims.plain 128 4096 512) none x w (constant S128x512 .f32 0x00000000#32)) (broadcast S128x512 (k0_pay1 (F := Ideal) a b)))
    transposes_S128x512_p1_0_S512x128 (ix2 n r)) rfl ?_
  rw [transpose_apply (s := S128x512) (t := S512x128) _ _ _ (ix2 n r) (ix2 r n) (by intro q; match q with | ⟨0, _⟩ => rfl | ⟨1, _⟩ => rfl)]
  show FloatOps.matmul (DotDims.plain 128 4096 512) none x w (constant S128x512 .f32 0x00000000#32) (ix2 r n) * (a * b) = _
  rw [Ideal.matmul_plain_apply]
  unfold entry
  refine congrArg (· * (a * b)) ?_
  show Ideal.ofBits .f32 0x00000000#32 + _ = _
  rw [zero_word, zero_add]

/-- The scales as the devices read them. -/
def scale₁ (c : Dev nD) : EReal := (M ((c : Thread nD τ).loc main_arg2) : S1.Idx → EReal) i0
def scale₂ (c : Dev nD) : EReal := (M ((c : Thread nD τ).loc main_arg3) : S1.Idx → EReal) i0

theorem stg0_apply (c : Dev nD) : stg0 M c i0 = scale₁ M c :=
  congrArg (M ((c : Thread nD τ).loc main_arg2) : S1.Idx → EReal) (funext fun a => Fin.ext (win0_0.rect_emb_val_of_index_zero (0 : Fin 1) a rfl i0))
theorem stg1_apply (c : Dev nD) : stg1 M c i0 = scale₂ M c :=
  congrArg (M ((c : Thread nD τ).loc main_arg3) : S1.Idx → EReal) (funext fun a => Fin.ext (win0_1.rect_emb_val_of_index_zero (0 : Fin 1) a rfl i0))

/-- An entry of a device's chunk of the product. -/
theorem chunk_apply (c : Dev nD) (k : Fin 4) (n : Fin 512) (r : Fin 128) :
    chunkVal M c k (ix2 n r)
      = entry (R := 128) (N := 2048) (xC M c) (wC M c) (scale₁ M c * scale₂ M c) r ⟨512 * k.val + n.val, by omega⟩ := by
  unfold chunkVal
  rw [block_apply, stg0_apply, stg1_apply]
  exact entry_congr (fun _ => rfl) (fun q => congrArg (wC M c) (pair_eq_ix2 (n0 := 4096) (n1 := 2048) q ⟨512 * k.val + n.val, by omega⟩)) rfl

/-- The device whose rows hold row `r` of the whole, the row's place there, and the column of the whole that is column `l`
    of device `c`'s block. -/
def rowDev (r : Fin 4096) : Dev nD := ⟨r.val / 128, by have := r.isLt; show _ < 32; omega⟩
def rowAt (r : Fin 4096) : Fin 128 := ⟨r.val % 128, Nat.mod_lt _ (by decide)⟩
def colAt (c : Dev nD) (l : Fin 64) : Fin 2048 := ⟨64 * c.val + l.val, by have := dev_lt c; have := l.isLt; omega⟩

/-- The landing buffer at an index: a product entry of the device the row came from. -/
theorem out_apply (c : Dev nD) (l : Fin 64) (r : Fin 4096) :
    outC M c (ix2 l r) = entry (R := 128) (N := 2048) (xC M (rowDev r)) (wC M (rowDev r)) (scale₁ M (rowDev r) * scale₂ M (rowDev r)) (rowAt r) (colAt c l) := by
  have hq : (colAt c l).val % 512 < 512 := Nat.mod_lt _ (by decide)
  have h : outC M c (ix2 l r) = chunkVal M (rowDev r) ⟨(colAt c l).val / 512, by have := (colAt c l).isLt; omega⟩
      (ix2 (⟨(colAt c l).val % 512, hq⟩ : Fin 512) (rowAt r)) :=
    congrArg (chunkVal M (rowDev r) _) (pair_eq_ix2 (n0 := 512) (n1 := 128) ⟨(colAt c l).val % 512, hq⟩ (rowAt r))
  rw [h]
  refine (chunk_apply M _ _ _ _).trans ?_
  congr 1
  exact Fin.ext (Nat.div_add_mod _ _)

/-- The result on device `c` at an index. -/
theorem res_apply (c : Dev nD) (r : Fin 4096) (l : Fin 64) :
    resC M c (ix2 r l) = entry (R := 128) (N := 2048) (xC M (rowDev r)) (wC M (rowDev r)) (scale₁ M (rowDev r) * scale₂ M (rowDev r)) (rowAt r) (colAt c l) := by
  refine Eq.trans (b := transpose (s := S64x4096) S4096x64 [1, 0] (outC M c) transposes_S64x4096_p1_0_S4096x64 (ix2 r l)) rfl ?_
  rw [transpose_apply (s := S64x4096) (t := S4096x64) _ _ _ (ix2 r l) (ix2 l r) (by intro q; match q with | ⟨0, _⟩ => rfl | ⟨1, _⟩ => rfl)]
  exact out_apply M c l r

end Entry

/-! ## The reference's entry, and the two results together -/

section Whole
variable (M : (ℓ : Loc nD τ sig) → Buf (Elt Ideal) ℓ)

/-- The reference's result as a function of its arguments. -/
def whole (X : FVec Ideal ⟨2, ![4096, 4096]⟩ .f32) (W : FVec Ideal ⟨2, ![4096, 2048]⟩ .f32) (a b : FVec Ideal ⟨1, ![1]⟩ .f32) : FVec Ideal ⟨2, ![4096, 2048]⟩ .f32 :=
  mulf (Host.dotGeneral Cert.ReferenceIdeal.dot_S4096x4096_S4096x2048_S4096x2048_1_0_0_1_n_n none X W)
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf a b)))

theorem whole_apply (X : FVec Ideal ⟨2, ![4096, 4096]⟩ .f32) (W : FVec Ideal ⟨2, ![4096, 2048]⟩ .f32) (a b : FVec Ideal ⟨1, ![1]⟩ .f32) (r : Fin 4096) (n : Fin 2048) :
    whole X W a b (ix2 r n) = entry X W (a i0 * b i0) r n := by
  have h : whole X W a b (ix2 r n)
      = FloatOps.matmul (DotDims.plain 4096 4096 2048) none X W (fun _ => (0 : EReal)) (ix2 r n)
        * broadcastInDim Cert.ReferenceIdeal.S4096x2048 ![0, 1] Cert.ReferenceIdeal.Gen.bcast_S1x1_S4096x2048_0_1
            (broadcastInDim Cert.ReferenceIdeal.S1x1 ![1] Cert.ReferenceIdeal.Gen.bcast_S1_S1x1_1 (mulf a b)) (ix2 r n) := rfl
  rw [h, Ideal.matmul_plain_apply, zero_add]
  unfold entry
  refine congrArg (_ * ·) ?_
  rw [broadcastInDim_apply _ _ _ (ix2 r n) (ix2 (0 : Fin 1) (0 : Fin 1)) (by intro q; match q with | ⟨0, _⟩ => rfl | ⟨1, _⟩ => rfl),
    broadcastInDim_apply _ _ _ (ix2 (0 : Fin 1) (0 : Fin 1)) i0 (by intro q; match q with | ⟨0, _⟩ => rfl)]
  rfl

/-- Where the devices hold the rows of `X`, and each all of `W` and of the scales, device `c`'s result is its columns of the
    reference's. -/
theorem res_block (X : FVec Ideal ⟨2, ![4096, 4096]⟩ .f32) (W : FVec Ideal ⟨2, ![4096, 2048]⟩ .f32) (a b : FVec Ideal ⟨1, ![1]⟩ .f32)
    (h : ∀ d : Dev nD, xC M d = Layout.block ⟨2, ![128, 4096]⟩ ⟨2, ![4096, 4096]⟩ 0 32 d X ∧ wC M d = W
      ∧ M ((d : Thread nD τ).loc main_arg2) = a ∧ M ((d : Thread nD τ).loc main_arg3) = b) (c : Dev nD) :
    resC M c = Layout.block ⟨2, ![4096, 64]⟩ ⟨2, ![4096, 2048]⟩ 1 32 c (whole X W a b) := by
  refine funext fun (i : (⟨2, ![4096, 64]⟩ : Shape).Idx) => ?_
  obtain ⟨r, l, rfl⟩ : ∃ (r : Fin 4096) (l : Fin 64), i = ix2 r l := ⟨i 0, i 1, eq_ix2 i⟩
  obtain ⟨hx, hw, ha, hb⟩ := h (rowDev r)
  have hi : ((by decide : Layout.Tiles ⟨2, ![4096, 64]⟩ ⟨2, ![4096, 2048]⟩ 1 32).idx c (ix2 r l)) = ix2 r (colAt c l) := by
    refine (eq_ix2 _).trans (congrArg₂ ix2 (Fin.ext rfl) (Fin.ext ?_))
    show c.val * 64 + l.val = 64 * c.val + l.val
    omega
  rw [res_apply, Layout.block_apply, hi, whole_apply]
  refine entry_congr (fun k => ?_) (fun k => congrFun hw _) ?_
  · rw [hx]
    show X _ = X _
    refine congrArg X ((eq_ix2 _).trans (congrArg₂ ix2 (Fin.ext ?_) (Fin.ext rfl)))
    show r.val / 128 * 128 + r.val % 128 = r.val
    omega
  · exact congrArg₂ (· * ·) (congrFun ha i0) (congrFun hb i0)

end Whole

end Cert.AllToAll

end
-- ==== Proof.Same.lean ====
/-
The kernel as printed and the kernel read over the extended reals have the same text, so their bodies and their tables of
kernels are equal, over any kind of float values.
-/
module

public import proofs.«01_k».proof.Proof.Gen.Kernel
public import proofs.«01_k».proof.Proof.Gen.KernelIdeal

@[expose] public section

noncomputable section

namespace Cert.AllToAll

open Idealize.ShloMosaic Idealize.SL.Sem

variable {F : FTy → Type} [FloatOps F]

/-- The two bodies are one. -/
theorem body_same : Cert.Kernel.cc0_body (F := F) = Cert.KernelIdeal.cc0_body (F := F) := rfl

/-- The two tables of bodies are one. -/
theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rw [body_same]

/-- The two tables of kernels, pipelined, are one. -/
theorem defs_same : Cert.Kernel.defs (F := F) = Cert.KernelIdeal.defs (F := F) := by
  unfold Cert.Kernel.defs Cert.KernelIdeal.defs
  rw [bodies_same]
  rfl

/-- The two main programs are one. -/
theorem main_same : Cert.Kernel.main (F := F) = Cert.KernelIdeal.main (F := F) := rfl

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launched
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's own frame: its text is that of the idealized one, whose run is proved for every kind of float values. -/
theorem frame_kernel : Cert.quiescent_Kernel := by
  intro m ρ _
  rw [Cert.AllToAll.defs_same, Cert.AllToAll.main_same]
  exact (θ_run (Cert.KernelIdeal.defs (F := Bits)) (onTc (τ := Cert.KernelIdeal.τ) (Cert.KernelIdeal.main (F := Bits))) ⟨m, fun _ => 0, ρ⟩).mono
    (fun r h => ⟨fun c => (h.1 c).2, h.2⟩) (Cert.AllToAll.run_main (F := Bits) m ρ)

/-- The idealized kernel's frame. -/
theorem frame_kernelIdeal : Cert.quiescent_KernelIdeal := fun m ρ _ =>
  (θ_run Cert.KernelIdeal.defs _ _).mono (fun _ h => ⟨fun c => (h.1 c).2, h.2⟩) (Cert.AllToAll.run_main (F := Ideal) m ρ)

/-- The reference's frame; it has no counters to leave raised. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its columns of the reference's. -/
theorem algebraic : Cert.algebraic_KernelIdeal_ReferenceIdeal := by
  intro m ρ m' ρ' _ hagree
  refine ⟨Cert.AllToAll.whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run Cert.KernelIdeal.defs _ _).mono (fun _ h c => ⟨((h.1 c).1.trans (Cert.AllToAll.final_res m ρ c)).trans ?_, (h.1 c).2⟩)
      (Cert.AllToAll.run_main (F := Ideal) m ρ)
    exact Cert.AllToAll.res_block m _ _ _ _ (fun d => hagree d) c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
